-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_projections [hPre_finite_projections : Cert.Pre_finite_projections.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_projections.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).1 = (fun _ => 1#1)
    ∧ (Cert.Pre_finite_projections.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.1 = (fun _ => 1#1)
    ∧ (Cert.Pre_finite_projections.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.1 = (fun _ => 1#1)
    ∧ (Cert.Pre_finite_projections.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.1 = (fun _ => 1#1)
    ∧ (Cert.Pre_finite_projections.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_projections [hPre_finite_projections : Cert.Pre_finite_projections.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_projections.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).1 = (fun _ => 1#1)
    ∧ (Cert.Pre_finite_projections.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.1 = (fun _ => 1#1)
    ∧ (Cert.Pre_finite_projections.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.1 = (fun _ => 1#1)
    ∧ (Cert.Pre_finite_projections.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.1 = (fun _ => 1#1)
    ∧ (Cert.Pre_finite_projections.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Kernel2Ideal_pre_finite_projections [hKernel2Ideal : Cert.Kernel2Ideal.Facts] [hPre_finite_projections : Cert.Pre_finite_projections.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_projections m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Reference2Ideal_pre_finite_projections [hReference2Ideal : Cert.Reference2Ideal.Facts] [hPre_finite_projections : Cert.Pre_finite_projections.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_projections m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)) (v2 : (c : Dev Cert.KernelIdeal.nD) → Buf (Elt Ideal) ((c.tc : Thread Cert.KernelIdeal.nD Cert.KernelIdeal.τ).loc Cert.KernelIdeal.main_v21_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_v21_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  IdealRules.named_const.Statement Cert.Kernel2Ideal.κ "s" .f32 0x3DB504F3#32 (((Real.sqrt 128)⁻¹ : ℝ) : EReal)

def algebraic_Kernel2Ideal_Reference2Ideal_pre_finite_projections [hKernel2Ideal : Cert.Kernel2Ideal.Facts] [hReference2Ideal : Cert.Reference2Ideal.Facts] [hPre_finite_projections : Cert.Pre_finite_projections.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_projections m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)) (v5 : (c : Dev Cert.Kernel2Ideal.nD) → Buf (Elt Ideal) ((c.tc : Thread Cert.Kernel2Ideal.nD Cert.Kernel2Ideal.τ).loc Cert.Kernel2Ideal.main_v24_5)) (v6 : (c : Dev Cert.Kernel2Ideal.nD) → Buf (Elt Ideal) ((c.tc : Thread Cert.Kernel2Ideal.nD Cert.Kernel2Ideal.τ).loc Cert.Kernel2Ideal.main_v24_6)) (v7 : (c : Dev Cert.Kernel2Ideal.nD) → Buf (Elt Ideal) ((c.tc : Thread Cert.Kernel2Ideal.nD Cert.Kernel2Ideal.τ).loc Cert.Kernel2Ideal.main_v24_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_v24_5) = v5 c
          ∧ r.2.mem ((c.tc : Thread Cert.Kernel2Ideal.nD Cert.Kernel2Ideal.τ).loc Cert.Kernel2Ideal.main_v24_6) = v6 c
          ∧ r.2.mem ((c.tc : Thread Cert.Kernel2Ideal.nD Cert.Kernel2Ideal.τ).loc Cert.Kernel2Ideal.main_v24_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v160) = v0 c
          ∧ r.2.mem ((c.tc : Thread Cert.Reference2Ideal.nD Cert.Reference2Ideal.τ).loc Cert.Reference2Ideal.main_v161) = v1 c
          ∧ r.2.mem ((c.tc : Thread Cert.Reference2Ideal.nD Cert.Reference2Ideal.τ).loc Cert.Reference2Ideal.main_v162) = v2 c
          ∧ r.2.mem ((c.tc : Thread Cert.Reference2Ideal.nD Cert.Reference2Ideal.τ).loc Cert.Reference2Ideal.main_v135) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_v158) = v5 c
          ∧ r.2.mem ((c.tc : Thread Cert.Reference2Ideal.nD Cert.Reference2Ideal.τ).loc Cert.Reference2Ideal.main_v163) = v6 c
          ∧ r.2.mem ((c.tc : Thread Cert.Reference2Ideal.nD Cert.Reference2Ideal.τ).loc Cert.Reference2Ideal.main_v164) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite_projections : Cert.Pre_finite_projections.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_projections (hKernel2Ideal := hKernel2Ideal) (hPre_finite_projections := hPre_finite_projections)
    ∧ quiescent_Reference2Ideal (hReference2Ideal := hReference2Ideal)
    ∧ quiescent_Reference2Ideal_pre_finite_projections (hReference2Ideal := hReference2Ideal) (hPre_finite_projections := hPre_finite_projections)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_projections (hKernel2Ideal := hKernel2Ideal) (hReference2Ideal := hReference2Ideal) (hPre_finite_projections := hPre_finite_projections)
-- ==== Pre_finite.lean ====
abbrev S2x8192x1024 : Shape := ⟨3, ![2, 8192, 1024]⟩
abbrev S2x8192x512 : Shape := ⟨3, ![2, 8192, 512]⟩
abbrev S128 : Shape := ⟨1, ![128]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S_ : Shape := ⟨0, ![]⟩

class Facts : Prop where
  bcast_S_S2x8192x1024 : S_.BroadcastsInDim S2x8192x1024 (![] : Fin 0 → Fin S2x8192x1024.rank)
  bcast_S_S2x8192x512 : S_.BroadcastsInDim S2x8192x512 (![] : Fin 0 → Fin S2x8192x512.rank)
  bcast_S_S128 : S_.BroadcastsInDim S128 (![] : Fin 0 → Fin S128.rank)
  bcast_S_S1024x1024 : S_.BroadcastsInDim S1024x1024 (![] : Fin 0 → Fin S1024x1024.rank)
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S1024x4x8 : S_.BroadcastsInDim S1024x4x8 (![] : Fin 0 → Fin S1024x4x8.rank)
  bcast_S_S4x8 : S_.BroadcastsInDim S4x8 (![] : Fin 0 → Fin S4x8.rank)

variable [Facts]

def fn_part1 {F : FTy → Type} [FloatOps F] (main_arg6 : FVec F S1024 .f32) (main_arg7 : FVec F S1024x4 .f32) (main_arg8 : FVec F S4 .f32) (main_arg9 : FVec F S1024x4x8 .f32) (main_arg10 : FVec F S4x8 .f32) (main_v2 : IVec S2x8192x1024 1) (main_v5 : IVec S2x8192x512 1) (main_v8 : IVec S2x8192x512 1) (main_v11 : IVec S2x8192x512 1) (main_v14 : IVec S128 1) (main_v17 : IVec S1024x1024 1) : IVec S2x8192x1024 1 × IVec S2x8192x512 1 × IVec S2x8192x512 1 × IVec S2x8192x512 1 × IVec S128 1 × IVec S1024x1024 1 × IVec S1024 1 × IVec S1024x4 1 × IVec S4 1 × IVec S1024x4x8 1 × IVec S4x8 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x4 .f32 := Host.absf main_arg7
  let main_cst_6 : FVec F S_ .f32 := constant S_ .f32 0x7F800000#32
  let main_v22 : FVec F S1024x4 .f32 := broadcastInDim S1024x4 ![] bcast_S_S1024x4 main_cst_6
  let main_v23 : IVec S1024x4 1 := cmpf .olt main_v21 main_v22
  let main_v24 : FVec F S4 .f32 := Host.absf main_arg8
  let main_cst_7 : FVec F S_ .f32 := constant S_ .f32 0x7F800000#32
  let main_v25 : FVec F S4 .f32 := broadcastInDim S4 ![] bcast_S_S4 main_cst_7
  let main_v26 : IVec S4 1 := cmpf .olt main_v24 main_v25
  let main_v27 : FVec F S1024x4x8 .f32 := Host.absf main_arg9
  let main_cst_8 : FVec F S_ .f32 := constant S_ .f32 0x7F800000#32
  let main_v28 : FVec F S1024x4x8 .f32 := broadcastInDim S1024x4x8 ![] bcast_S_S1024x4x8 main_cst_8
  let main_v29 : IVec S1024x4x8 1 := cmpf .olt main_v27 main_v28
  let main_v30 : FVec F S4x8 .f32 := Host.absf main_arg10
  let main_cst_9 : FVec F S_ .f32 := constant S_ .f32 0x7F800000#32
  let main_v31 : FVec F S4x8 .f32 := broadcastInDim S4x8 ![] bcast_S_S4x8 main_cst_9
  let main_v32 : IVec S4x8 1 := cmpf .olt main_v30 main_v31
  (main_v2, main_v5, main_v8, main_v11, main_v14, main_v17, main_v20, main_v23, main_v26, main_v29, main_v32)

def fn {F : FTy → Type} [FloatOps F] (main_arg0 : FVec F S2x8192x1024 .f32) (main_arg1 : FVec F S2x8192x512 .bf16) (main_arg2 : FVec F S2x8192x512 .f32) (main_arg3 : FVec F S2x8192x512 .f32) (main_arg4 : FVec F S128 .f32) (main_arg5 : FVec F S1024x1024 .f32) (main_arg6 : FVec F S1024 .f32) (main_arg7 : FVec F S1024x4 .f32) (main_arg8 : FVec F S4 .f32) (main_arg9 : FVec F S1024x4x8 .f32) (main_arg10 : FVec F S4x8 .f32) : IVec S2x8192x1024 1 × IVec S2x8192x512 1 × IVec S2x8192x512 1 × IVec S2x8192x512 1 × IVec S128 1 × IVec S1024x1024 1 × IVec S1024 1 × IVec S1024x4 1 × IVec S4 1 × IVec S1024x4x8 1 × IVec S4x8 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S2x8192x512 .bf16 := Host.absf main_arg1
  let main_cst_0 : FVec F S_ .bf16 := constant S_ .bf16 0x7F80#16
  let main_v4 : FVec F S2x8192x512 .bf16 := broadcastInDim S2x8192x512 ![] bcast_S_S2x8192x512 main_cst_0
  let main_v5 : IVec S2x8192x512 1 := cmpf .olt main_v3 main_v4
  let main_v6 : FVec F S2x8192x512 .f32 := Host.absf main_arg2
  let main_cst_1 : FVec F S_ .f32 := constant S_ .f32 0x7F800000#32
  let main_v7 : FVec F S2x8192x512 .f32 := broadcastInDim S2x8192x512 ![] bcast_S_S2x8192x512 main_cst_1
  let main_v8 : IVec S2x8192x512 1 := cmpf .olt main_v6 main_v7
  let main_v9 : FVec F S2x8192x512 .f32 := Host.absf main_arg3
  let main_cst_2 : FVec F S_ .f32 := constant S_ .f32 0x7F800000#32
  let main_v10 : FVec F S2x8192x512 .f32 := broadcastInDim S2x8192x512 ![] bcast_S_S2x8192x512 main_cst_2
  let main_v11 : IVec S2x8192x512 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg6 main_arg7 main_arg8 main_arg9 main_arg10 main_v2 main_v5 main_v8 main_v11 main_v14 main_v17
-- ==== Pre_finite_projections.lean ====
abbrev S2x8192x1024 : Shape := ⟨3, ![2, 8192, 1024]⟩
abbrev S8x512 : Shape := ⟨2, ![8, 512]⟩
abbrev S8x1536 : Shape := ⟨2, ![8, 1536]⟩
abbrev S1024 : Shape := ⟨1, ![1024]⟩
abbrev S1024x3592 : Shape := ⟨2, ![1024, 3592]⟩
abbrev S3x512 : Shape := ⟨2, ![3, 512]⟩
abbrev S512 : Shape := ⟨1, ![512]⟩
abbrev S4x1536 : Shape := ⟨2, ![4, 1536]⟩
abbrev S4 : Shape := ⟨1, ![4]⟩
abbrev S_ : Shape := ⟨0, ![]⟩

class Facts : Prop where
  bcast_S_S2x8192x1024 : S_.BroadcastsInDim S2x8192x1024 (![] : Fin 0 → Fin S2x8192x1024.rank)
  bcast_S_S8x512 : S_.BroadcastsInDim S8x512 (![] : Fin 0 → Fin S8x512.rank)
  bcast_S_S1024 : S_.BroadcastsInDim S1024 (![] : Fin 0 → Fin S1024.rank)
  bcast_S_S1024x3592 : S_.BroadcastsInDim S1024x3592 (![] : Fin 0 → Fin S1024x3592.rank)
  bcast_S_S3x512 : S_.BroadcastsInDim S3x512 (![] : Fin 0 → Fin S3x512.rank)

variable [Facts]

def fn {F : FTy → Type} [FloatOps F] (main_arg0 : FVec F S2x8192x1024 .f32) (main_arg1 : FVec F S8x512 .f32) (main_arg2 : FVec F S8x1536 .f32) (main_arg3 : FVec F S1024 .f32) (main_arg4 : FVec F S1024x3592 .f32) (main_arg5 : FVec F S3x512 .f32) (main_arg6 : FVec F S512 .f32) (main_arg7 : FVec F S4x1536 .f32) (main_arg8 : FVec F S4 .f32) (main_arg9 : FVec F S4 .f32) : IVec S2x8192x1024 1 × IVec S8x512 1 × IVec S1024 1 × IVec S1024x3592 1 × IVec S3x512 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S8x512 .f32 := Host.absf main_arg1
  let main_cst_0 : FVec F S_ .f32 := constant S_ .f32 0x7F800000#32
  let main_v4 : FVec F S8x512 .f32 := broadcastInDim S8x512 ![] bcast_S_S8x512 main_cst_0
  let main_v5 : IVec S8x512 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x3592 .f32 := Host.absf main_arg4
  let main_cst_2 : FVec F S_ .f32 := constant S_ .f32 0x7F800000#32
  let main_v10 : FVec F S1024x3592 .f32 := broadcastInDim S1024x3592 ![] bcast_S_S1024x3592 main_cst_2
  let main_v11 : IVec S1024x3592 1 := cmpf .olt main_v9 main_v10
  let main_v12 : FVec F S3x512 .f32 := Host.absf main_arg5
  let main_cst_3 : FVec F S_ .f32 := constant S_ .f32 0x7F800000#32
  let main_v13 : FVec F S3x512 .f32 := broadcastInDim S3x512 ![] bcast_S_S3x512 main_cst_3
  let main_v14 : IVec S3x512 1 := cmpf .olt main_v12 main_v13
  (main_v2, main_v5, main_v8, main_v11, main_v14)
-- ==== Kernel.lean ====
abbrev S2x8192x1024 : Shape := ⟨3, ![2, 8192, 1024]⟩
abbrev S2x8192x512 : Shape := ⟨3, ![2, 8192, 512]⟩
abbrev S128 : Shape := ⟨1, ![128]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S1x128 : Shape := ⟨2, ![1, 128]⟩
abbrev S512x1024 : Shape := ⟨2, ![512, 1024]⟩
abbrev S1x1024 : Shape := ⟨2, ![1, 1024]⟩
abbrev S32 : Shape := ⟨1, ![32]⟩
abbrev S36 : Shape := ⟨1, ![36]⟩
abbrev S1x36 : Shape := ⟨2, ![1, 36]⟩
abbrev S16384x1024 : Shape := ⟨2, ![16384, 1024]⟩
abbrev S16384x512 : Shape := ⟨2, ![16384, 512]⟩
abbrev S16384x128 : Shape := ⟨2, ![16384, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 39
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .f32⟩
  | .hbm, ⟨3, _⟩ => ⟨S2x8192x512, .f32⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x4x8, .f32⟩
  | .hbm, ⟨10, _⟩ => ⟨S4x8, .f32⟩
  | .hbm, ⟨11, _⟩ => ⟨S1024x32, .f32⟩
  | .hbm, ⟨12, _⟩ => ⟨S1024x36, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S1x128, .f32⟩
  | .hbm, ⟨18, _⟩ => ⟨S512x1024, .f32⟩
  | .hbm, ⟨19, _⟩ => ⟨S512x1024, .bf16⟩
  | .hbm, ⟨20, _⟩ => ⟨S512x1024, .f32⟩
  | .hbm, ⟨21, _⟩ => ⟨S512x1024, .bf16⟩
  | .hbm, ⟨22, _⟩ => ⟨S1x1024, .f32⟩
  | .hbm, ⟨23, _⟩ => ⟨S1024x128, .f32⟩
  | .hbm, ⟨24, _⟩ => ⟨S1024x128, .f32⟩
  | .hbm, ⟨25, _⟩ => ⟨S1024x128, .bf16⟩
  | .hbm, ⟨26, _⟩ => ⟨S32, .f32⟩
  | .hbm, ⟨27, _⟩ => ⟨S36, .f32⟩
  | .hbm, ⟨28, _⟩ => ⟨S1x36, .f32⟩
  | .hbm, ⟨29, _⟩ => ⟨S_, .i32⟩
  | .hbm, ⟨30, _⟩ => ⟨S_, .f32⟩
  | .hbm, ⟨31, _⟩ => ⟨S1x128, .f32⟩
  | .hbm, ⟨32, _⟩ => ⟨S16384x1024, .f32⟩
  | .hbm, ⟨33, _⟩ => ⟨S16384x512, .bf16⟩
  | .hbm, ⟨34, _⟩ => ⟨S16384x512, .f32⟩
  | .hbm, ⟨35, _⟩ => ⟨S16384x512, .f32⟩
  | .hbm, ⟨36, _⟩ => ⟨S16384x1024, .f32⟩
  | .hbm, ⟨37, _⟩ => ⟨S16384x1024, .f32⟩
  | .hbm, ⟨38, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x128, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1024x128, .bf16⟩
  | .local _ .vmem, ⟨13, _⟩ => ⟨S1024x128, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x128, .f32⟩
  | .local _ .vmem, ⟨20, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_0 : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2x8192x1024 : Shape := ⟨3, ![2, 8192, 1024]⟩
abbrev S2x8192x512 : Shape := ⟨3, ![2, 8192, 512]⟩
abbrev S128 : Shape := ⟨1, ![128]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩
abbrev S16384x512 : Shape := ⟨2, ![16384, 512]⟩
abbrev S16384x1024 : Shape := ⟨2, ![16384, 1024]⟩
abbrev S16384 : Shape := ⟨1, ![16384]⟩
abbrev S16384x1 : Shape := ⟨2, ![16384, 1]⟩
abbrev S1x1024 : Shape := ⟨2, ![1, 1024]⟩
abbrev S1x4 : Shape := ⟨2, ![1, 4]⟩
abbrev S1024x32 : Shape := ⟨2, ![1024, 32]⟩
abbrev S16384x32 : Shape := ⟨2, ![16384, 32]⟩
abbrev S16384x4x8 : Shape := ⟨3, ![16384, 4, 8]⟩
abbrev S1x4x8 : Shape := ⟨3, ![1, 4, 8]⟩
abbrev S16384x1x1 : Shape := ⟨3, ![16384, 1, 1]⟩
abbrev S1 : Shape := ⟨1, ![1]⟩
abbrev S1x1x1 : Shape := ⟨3, ![1, 1, 1]⟩
abbrev S16384x1x8 : Shape := ⟨3, ![16384, 1, 8]⟩
abbrev S16384x8 : Shape := ⟨2, ![16384, 8]⟩
abbrev S16384x2 : Shape := ⟨2, ![16384, 2]⟩
abbrev S16384x124 : Shape := ⟨2, ![16384, 124]⟩
abbrev S16384x128 : Shape := ⟨2, ![16384, 128]⟩

abbrev nBuf : Space → Nat
  | .hbm => 144
  | .vmem => 0
  | .smem => 0
  | _ => 0

abbrev hbmTy0_0 (i : Nat) : BufTy := match i % 128 with
  | 0 => ⟨S2x8192x1024, .f32⟩
  | 1 => ⟨S2x8192x512, .bf16⟩
  | 2 => ⟨S2x8192x512, .f32⟩
  | 3 => ⟨S2x8192x512, .f32⟩
  | 4 => ⟨S128, .f32⟩
  | 5 => ⟨S1024x1024, .f32⟩
  | 6 => ⟨S1024, .f32⟩
  | 7 => ⟨S1024x4, .f32⟩
  | 8 => ⟨S4, .f32⟩
  | 9 => ⟨S1024x4x8, .f32⟩
  | 10 => ⟨S4x8, .f32⟩
  | 11 => ⟨S16384x4x128, .f32⟩
  | 12 => ⟨S16384x4x128, .f32⟩
  | 13 => ⟨S_, .f32⟩
  | 14 => ⟨S16384x4, .f32⟩
  | 15 => ⟨S16384x4x1, .f32⟩
  | 16 => ⟨S_, .f32⟩
  | 17 => ⟨S16384x4x1, .f32⟩
  | 18 => ⟨S16384x4x1, .f32⟩
  | 19 => ⟨S_, .f32⟩
  | 20 => ⟨S16384x4x1, .f32⟩
  | 21 => ⟨S16384x4x1, .f32⟩
  | 22 => ⟨S16384x4x1, .f32⟩
  | 23 => ⟨S16384x4x128, .f32⟩
  | 24 => ⟨S16384x4x128, .f32⟩
  | 25 => ⟨S1x1x128, .f32⟩
  | 26 => ⟨S16384x4x128, .f32⟩
  | 27 => ⟨S16384x4x128, .f32⟩
  | 28 => ⟨S16384x4x128, .f32⟩
  | 29 => ⟨S16384x4x128, .f32⟩
  | 30 => ⟨S16384x4x128, .f32⟩
  | 31 => ⟨S_, .f32⟩
  | 32 => ⟨S16384x4x128, .f32⟩
  | 33 => ⟨S16384x4x128, .f32⟩
  | 34 => ⟨S_, .f32⟩
  | 35 => ⟨S16384x4x128, .f32⟩
  | 36 => ⟨S16384x4x128, .f32⟩
  | 37 => ⟨S16384x4x128, .f32⟩
  | 38 => ⟨S16384x4x128, .f32⟩
  | 39 => ⟨S2x8192x512, .f32⟩
  | 40 => ⟨S16384x512, .f32⟩
  | 41 => ⟨S16384x512, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S_, .f32⟩
  | 54 => ⟨S16384x1, .f32⟩
  | 55 => ⟨S16384x1, .f32⟩
  | 56 => ⟨S16384x1, .f32⟩
  | 57 => ⟨S16384x1024, .f32⟩
  | 58 => ⟨S16384x1024, .f32⟩
  | 59 => ⟨S1x1024, .f32⟩
  | 60 => ⟨S16384x1024, .f32⟩
  | 61 => ⟨S16384x1024, .f32⟩
  | 62 => ⟨S16384x4, .f32⟩
  | 63 => ⟨S1x4, .f32⟩
  | 64 => ⟨S16384x4, .f32⟩
  | 65 => ⟨S16384x4, .f32⟩
  | 66 => ⟨S_, .f32⟩
  | 67 => ⟨S16384, .f32⟩
  | 68 => ⟨S_, .f32⟩
  | 69 => ⟨S16384, .f32⟩
  | 70 => ⟨S16384, .f32⟩
  | 71 => ⟨S16384x1, .f32⟩
  | 72 => ⟨S16384x4, .f32⟩
  | 73 => ⟨S16384x4, .f32⟩
  | 74 => ⟨S16384x4, .f32⟩
  | 75 => ⟨S_, .f32⟩
  | 76 => ⟨S16384, .f32⟩
  | 77 => ⟨S16384x1, .f32⟩
  | 78 => ⟨S16384x4, .f32⟩
  | 79 => ⟨S16384x4, .f32⟩
  | 80 => ⟨S16384x1, .f32⟩
  | 81 => ⟨S16384x1, .i32⟩
  | 82 => ⟨S1024x32, .f32⟩
  | 83 => ⟨S16384x32, .f32⟩
  | 84 => ⟨S16384x4x8, .f32⟩
  | 85 => ⟨S1x4x8, .f32⟩
  | 86 => ⟨S16384x4x8, .f32⟩
  | 87 => ⟨S16384x4x8, .f32⟩
  | 88 => ⟨S16384x1x1, .i32⟩
  | 89 => ⟨S_, .i32⟩
  | 90 => ⟨S16384x1x1, .i32⟩
  | 91 => ⟨S16384x1x1, .i1⟩
  | 92 => ⟨S_, .i32⟩
  | 93 => ⟨S16384x1x1, .i32⟩
  | 94 => ⟨S16384x1x1, .i32⟩
  | 95 => ⟨S16384x1x1, .i32⟩
  | 96 => ⟨S1, .i32⟩
  | 97 => ⟨S_, .i32⟩
  | 98 => ⟨S16384x1x1, .i32⟩
  | 99 => ⟨S16384x1x1, .i1⟩
  | 100 => ⟨S1x1x1, .i32⟩
  | 101 => ⟨S16384x1x1, .i32⟩
  | 102 => ⟨S16384x1x1, .i1⟩
  | 103 => ⟨S16384x1x1, .i1⟩
  | 104 => ⟨S_, .i1⟩
  | 105 => ⟨S16384x1, .i1⟩
  | 106 => ⟨S16384x1x8, .f32⟩
  | 107 => ⟨S16384x1x8, .i1⟩
  | 108 => ⟨S_, .f32⟩
  | 109 => ⟨S16384x1x8, .f32⟩
  | 110 => ⟨S16384x1x8, .f32⟩
  | 111 => ⟨S16384x8, .f32⟩
  | 112 => ⟨S_, .f32⟩
  | 113 => ⟨S16384, .f32⟩
  | 114 => ⟨S_, .f32⟩
  | 115 => ⟨S16384, .f32⟩
  | 116 => ⟨S16384, .f32⟩
  | 117 => ⟨S16384x1, .f32⟩
  | 118 => ⟨S16384x8, .f32⟩
  | 119 => ⟨S16384x8, .f32⟩
  | 120 => ⟨S16384x8, .f32⟩
  | 121 => ⟨S_, .f32⟩
  | 122 => ⟨S16384, .f32⟩
  | 123 => ⟨S16384x1, .f32⟩
  | 124 => ⟨S16384x8, .f32⟩
  | 125 => ⟨S16384x8, .f32⟩
  | 126 => ⟨S16384x2, .f32⟩
  | 127 => ⟨S16384x2, .i32⟩
  | _ => ⟨S2x8192x1024, .f32⟩

abbrev hbmTy0_1 (i : Nat) : BufTy := match i % 128 with
  | 0 => ⟨S_, .f32⟩
  | 1 => ⟨S16384, .f32⟩
  | 2 => ⟨S16384x1, .f32⟩
  | 3 => ⟨S16384x2, .f32⟩
  | 4 => ⟨S16384x2, .f32⟩
  | 5 => ⟨S16384x2, .f32⟩
  | 6 => ⟨S16384x2, .f32⟩
  | 7 => ⟨S_, .i32⟩
  | 8 => ⟨S16384x1, .i32⟩
  | 9 => ⟨S16384x1, .i32⟩
  | 10 => ⟨S16384x2, .i32⟩
  | 11 => ⟨S16384x2, .i32⟩
  | 12 => ⟨S16384x2, .f32⟩
  | 13 => ⟨S_, .f32⟩
  | 14 => ⟨S16384x124, .f32⟩
  | 15 => ⟨S16384x128, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_values : Ref sig .tc := ⟨.hbm, 80, rfl⟩
abbrev main_indices : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call0_c : Ref sig .tc := ⟨.hbm, 89, rfl⟩
abbrev main_call0_v0 : Ref sig .tc := ⟨.hbm, 90, rfl⟩
abbrev main_call0_v1 : Ref sig .tc := ⟨.hbm, 91, rfl⟩
abbrev main_call0_c_0 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_c_1 : Ref sig .tc := ⟨.hbm, 96, rfl⟩
abbrev main_call0_c_2 : Ref sig .tc := ⟨.hbm, 97, rfl⟩
abbrev main_call0_v5 : Ref sig .tc := ⟨.hbm, 98, rfl⟩
abbrev main_call0_v6 : Ref sig .tc := ⟨.hbm, 99, rfl⟩
abbrev main_call0_v7 : Ref sig .tc := ⟨.hbm, 100, rfl⟩
abbrev main_call0_v8 : Ref sig .tc := ⟨.hbm, 101, rfl⟩
abbrev main_call0_v9 : Ref sig .tc := ⟨.hbm, 102, rfl⟩
abbrev main_call0_v10 : Ref sig .tc := ⟨.hbm, 103, rfl⟩
abbrev main_call0_c_3 : Ref sig .tc := ⟨.hbm, 104, rfl⟩
abbrev main_call0_v11 : Ref sig .tc := ⟨.hbm, 105, rfl⟩
abbrev main_call0_v12 : Ref sig .tc := ⟨.hbm, 106, rfl⟩
abbrev main_call0_v13 : Ref sig .tc := ⟨.hbm, 107, rfl⟩
abbrev main_call0_cst : Ref sig .tc := ⟨.hbm, 108, rfl⟩
abbrev main_call0_v14 : Ref sig .tc := ⟨.hbm, 109, rfl⟩
abbrev main_v65 : Ref sig .tc := ⟨.hbm, 110, rfl⟩
abbrev main_v66 : Ref sig .tc := ⟨.hbm, 111, rfl⟩
abbrev main_cst_10 : Ref sig .tc := ⟨.hbm, 112, rfl⟩
abbrev main_v67 : Ref sig .tc := ⟨.hbm, 113, rfl⟩
abbrev main_cst_11 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_12 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_values_13 : Ref sig .tc := ⟨.hbm, 126, rfl⟩
abbrev main_indices_14 : Ref sig .tc := ⟨.hbm, 127, rfl⟩
abbrev main_cst_15 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_16 : Ref sig .tc := ⟨.hbm, 141, rfl⟩
abbrev main_v89 : Ref sig .tc := ⟨.hbm, 142, rfl⟩
abbrev main_v90 : Ref sig .tc := ⟨.hbm, 143, rfl⟩

abbrev nD : Nat := 1
abbrev τ : Topo := Topo.v7x

variable {F : FTy → Type} [FloatOps F]
-- ==== Kernel2.lean ====
abbrev S2x8192x1024 : Shape := ⟨3, ![2, 8192, 1024]⟩
abbrev S8x512 : Shape := ⟨2, ![8, 512]⟩
abbrev S8x1536 : Shape := ⟨2, ![8, 1536]⟩
abbrev S1024 : Shape := ⟨1, ![1024]⟩
abbrev S1024x3592 : Shape := ⟨2, ![1024, 3592]⟩
abbrev S3x512 : Shape := ⟨2, ![3, 512]⟩
abbrev S512 : Shape := ⟨1, ![512]⟩
abbrev S4x1536 : Shape := ⟨2, ![4, 1536]⟩
abbrev S4 : Shape := ⟨1, ![4]⟩
abbrev S1024x8 : Shape := ⟨2, ![1024, 8]⟩
abbrev S_ : Shape := ⟨0, ![]⟩
abbrev S1024x128 : Shape := ⟨2, ![1024, 128]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1024x1536 : Shape := ⟨2, ![1024, 1536]⟩
abbrev S1024x512 : Shape := ⟨2, ![1024, 512]⟩
abbrev S1x4 : Shape := ⟨2, ![1, 4]⟩
abbrev S1x128 : Shape := ⟨2, ![1, 128]⟩
abbrev S2x8192x512 : Shape := ⟨3, ![2, 8192, 512]⟩
abbrev S2x8192x128 : Shape := ⟨3, ![2, 8192, 128]⟩
abbrev S2x8x512 : Shape := ⟨3, ![2, 8, 512]⟩
abbrev S2x8x1536 : Shape := ⟨3, ![2, 8, 1536]⟩
abbrev S1x512x1024 : Shape := ⟨3, ![1, 512, 1024]⟩
abbrev S1x512x512 : Shape := ⟨3, ![1, 512, 512]⟩
abbrev S1x512x128 : Shape := ⟨3, ![1, 512, 128]⟩
abbrev S1x8x512 : Shape := ⟨3, ![1, 8, 512]⟩
abbrev S1x8x1536 : Shape := ⟨3, ![1, 8, 1536]⟩
abbrev S520x512 : Shape := ⟨2, ![520, 512]⟩
abbrev S520x1536 : Shape := ⟨2, ![520, 1536]⟩
abbrev S512x1024 : Shape := ⟨2, ![512, 1024]⟩
abbrev S512x1536 : Shape := ⟨2, ![512, 1536]⟩
abbrev S1x1536 : Shape := ⟨2, ![1, 1536]⟩
abbrev S512x128 : Shape := ⟨2, ![512, 128]⟩

abbrev nBuf : Space → Nat
  | .hbm => 69
  | .vmem => 33
  | .smem => 0
  | _ => 0

abbrev bufTy : (tb : Table) → Fin (tcTables nBuf tb) → BufTy
  | .hbm, ⟨0, _⟩ => ⟨S2x8192x1024, .f32⟩
  | .hbm, ⟨1, _⟩ => ⟨S8x512, .f32⟩
  | .hbm, ⟨2, _⟩ => ⟨S8x1536, .f32⟩
  | .hbm, ⟨3, _⟩ => ⟨S1024, .f32⟩
  | .hbm, ⟨4, _⟩ => ⟨S1024x3592, .f32⟩
  | .hbm, ⟨5, _⟩ => ⟨S3x512, .f32⟩
  | .hbm, ⟨6, _⟩ => ⟨S512, .f32⟩
  | .hbm, ⟨7, _⟩ => ⟨S4x1536, .f32⟩
  | .hbm, ⟨8, _⟩ => ⟨S4, .f32⟩
  | .hbm, ⟨9, _⟩ => ⟨S4, .f32⟩
  | .hbm, ⟨10, _⟩ => ⟨S1024x8, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S512, .i32⟩
  | .hbm, ⟨15, _⟩ => ⟨S_, .i32⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S512x1, .i32⟩
  | .hbm, ⟨34, _⟩ => ⟨S1x512, .i32⟩
  | .hbm, ⟨35, _⟩ => ⟨S512x512, .i32⟩
  | .hbm, ⟨36, _⟩ => ⟨S512x512, .i32⟩
  | .hbm, ⟨37, _⟩ => ⟨S512x512, .i1⟩
  | .hbm, ⟨38, _⟩ => ⟨S_, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S512x512, .bf16⟩
  | .hbm, ⟨44, _⟩ => ⟨S1x1024, .f32⟩
  | .hbm, ⟨45, _⟩ => ⟨S1024x1536, .f32⟩
  | .hbm, ⟨46, _⟩ => ⟨S1024x1536, .bf16⟩
  | .hbm, ⟨47, _⟩ => ⟨S1024x1536, .f32⟩
  | .hbm, ⟨48, _⟩ => ⟨S1024x1536, .bf16⟩
  | .hbm, ⟨49, _⟩ => ⟨S1024x512, .f32⟩
  | .hbm, ⟨50, _⟩ => ⟨S1024x512, .bf16⟩
  | .hbm, ⟨51, _⟩ => ⟨S1024x128, .bf16⟩
  | .hbm, ⟨52, _⟩ => ⟨S1x512, .f32⟩
  | .hbm, ⟨53, _⟩ => ⟨S1x4, .f32⟩
  | .hbm, ⟨54, _⟩ => ⟨S_, .i32⟩
  | .hbm, ⟨55, _⟩ => ⟨S_, .f32⟩
  | .hbm, ⟨56, _⟩ => ⟨S1x128, .f32⟩
  | .hbm, ⟨57, _⟩ => ⟨S1x4, .f32⟩
  | .hbm, ⟨58, _⟩ => ⟨S_, .i32⟩
  | .hbm, ⟨59, _⟩ => ⟨S_, .f32⟩
  | .hbm, ⟨60, _⟩ => ⟨S1x128, .f32⟩
  | .hbm, ⟨61, _⟩ => ⟨S2x8192x512, .bf16⟩
  | .hbm, ⟨62, _⟩ => ⟨S2x8192x512, .f32⟩
  | .hbm, ⟨63, _⟩ => ⟨S2x8192x512, .f32⟩
  | .hbm, ⟨64, _⟩ => ⟨S2x8192x512, .f32⟩
  | .hbm, ⟨65, _⟩ => ⟨S2x8192x512, .f32⟩
  | .hbm, ⟨66, _⟩ => ⟨S2x8192x128, .f32⟩
  | .hbm, ⟨67, _⟩ => ⟨S2x8x512, .f32⟩
  | .hbm, ⟨68, _⟩ => ⟨S2x8x1536, .f32⟩
  | .local _ .vmem, ⟨0, _⟩ => ⟨S1x512x1024, .f32⟩
  | .local _ .vmem, ⟨1, _⟩ => ⟨S1x512x1024, .f32⟩
  | .local _ .vmem, ⟨2, _⟩ => ⟨S8x512, .f32⟩
  | .local _ .vmem, ⟨3, _⟩ => ⟨S8x1536, .f32⟩
  | .local _ .vmem, ⟨4, _⟩ => ⟨S1x1024, .f32⟩
  | .local _ .vmem, ⟨5, _⟩ => ⟨S1024x1536, .bf16⟩
  | .local _ .vmem, ⟨6, _⟩ => ⟨S1024x1536, .bf16⟩
  | .local _ .vmem, ⟨7, _⟩ => ⟨S1024x512, .bf16⟩
  | .local _ .vmem, ⟨8, _⟩ => ⟨S1024x128, .bf16⟩
  | .local _ .vmem, ⟨9, _⟩ => ⟨S3x512, .f32⟩
  | .local _ .vmem, ⟨10, _⟩ => ⟨S1x512, .f32⟩
  | .local _ .vmem, ⟨11, _⟩ => ⟨S512x512, .bf16⟩
  | .local _ .vmem, ⟨12, _⟩ => ⟨S4x1536, .f32⟩
  | .local _ .vmem, ⟨13, _⟩ => ⟨S1x128, .f32⟩
  | .local _ .vmem, ⟨14, _⟩ => ⟨S1x128, .f32⟩
  | .local _ .vmem, ⟨15, _⟩ => ⟨S1x512x512, .bf16⟩
  | .local _ .vmem, ⟨16, _⟩ => ⟨S1x512x512, .bf16⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x128, .f32⟩
  | .local _ .vmem, ⟨26, _⟩ => ⟨S1x512x128, .f32⟩
  | .local _ .vmem, ⟨27, _⟩ => ⟨S1x8x512, .f32⟩
  | .local _ .vmem, ⟨28, _⟩ => ⟨S1x8x512, .f32⟩
  | .local _ .vmem, ⟨29, _⟩ => ⟨S1x8x1536, .f32⟩
  | .local _ .vmem, ⟨30, _⟩ => ⟨S1x8x1536, .f32⟩
  | .local _ .vmem, ⟨31, _⟩ => ⟨S520x512, .f32⟩
  | .local _ .vmem, ⟨32, _⟩ => ⟨S520x1536, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst : Ref sig .tc := ⟨.hbm, 38, rfl⟩
abbrev main_cst_1 : Ref sig .tc := ⟨.hbm, 39, rfl⟩
abbrev main_call2_v0 : Ref sig .tc := ⟨.hbm, 40, rfl⟩
abbrev main_call2_v1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_2 : Ref sig .tc := ⟨.hbm, 54, rfl⟩
abbrev main_call3_v0 : Ref sig .tc := ⟨.hbm, 55, rfl⟩
abbrev main_v21 : Ref sig .tc := ⟨.hbm, 56, rfl⟩
abbrev main_v22 : Ref sig .tc := ⟨.hbm, 57, rfl⟩
abbrev main_c_3 : Ref sig .tc := ⟨.hbm, 58, rfl⟩
abbrev main_call4_v0 : Ref sig .tc := ⟨.hbm, 59, rfl⟩
abbrev main_v23 : Ref sig .tc := ⟨.hbm, 60, rfl⟩
abbrev main_v24_0 : Ref sig .tc := ⟨.hbm, 61, rfl⟩
abbrev main_v24_1 : Ref sig .tc := ⟨.hbm, 62, rfl⟩
abbrev main_v24_2 : Ref sig .tc := ⟨.hbm, 63, rfl⟩
abbrev main_v24_3 : Ref sig .tc := ⟨.hbm, 64, rfl⟩
abbrev main_v24_4 : Ref sig .tc := ⟨.hbm, 65, rfl⟩
abbrev main_v24_5 : Ref sig .tc := ⟨.hbm, 66, rfl⟩
abbrev main_v24_6 : Ref sig .tc := ⟨.hbm, 67, rfl⟩
abbrev main_v24_7 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x8x1536 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== Kernel2Ideal.lean ====
variable {F : FTy → Type} [FloatOps F] [Named F]
def κ : String → Option EReal := fun
  | "s" => some (((Real.sqrt 128)⁻¹ : ℝ) : EReal)
  | _ => none
-- ==== Reference2Ideal.lean ====
abbrev S2x8192x1024 : Shape := ⟨3, ![2, 8192, 1024]⟩
abbrev S8x512 : Shape := ⟨2, ![8, 512]⟩
abbrev S8x1536 : Shape := ⟨2, ![8, 1536]⟩
abbrev S1024 : Shape := ⟨1, ![1024]⟩
abbrev S1024x3592 : Shape := ⟨2, ![1024, 3592]⟩
abbrev S3x512 : Shape := ⟨2, ![3, 512]⟩
abbrev S512 : Shape := ⟨1, ![512]⟩
abbrev S4x1536 : Shape := ⟨2, ![4, 1536]⟩
abbrev S4 : Shape := ⟨1, ![4]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3592 : Shape := ⟨3, ![2, 8192, 3592]⟩
abbrev S2x8192x512 : Shape := ⟨3, ![2, 8192, 512]⟩
abbrev S2x8192x1536 : Shape := ⟨3, ![2, 8192, 1536]⟩
abbrev S2x8192x4 : Shape := ⟨3, ![2, 8192, 4]⟩
abbrev S2x512 : Shape := ⟨2, ![2, 512]⟩
abbrev S2x2x512 : Shape := ⟨3, ![2, 2, 512]⟩
abbrev S2x8194x512 : Shape := ⟨3, ![2, 8194, 512]⟩
abbrev S1x512 : Shape := ⟨2, ![1, 512]⟩
abbrev S1x1x512 : Shape := ⟨3, ![1, 1, 512]⟩
abbrev S2x8192x8x64 : Shape := ⟨4, ![2, 8192, 8, 64]⟩
abbrev S8x64 : Shape := ⟨2, ![8, 64]⟩
abbrev S2x8192x8 : Shape := ⟨3, ![2, 8192, 8]⟩
abbrev S2x8192x8x1 : Shape := ⟨4, ![2, 8192, 8, 1]⟩
abbrev S1x1x8x64 : Shape := ⟨4, ![1, 1, 8, 64]⟩
abbrev S3x1536 : Shape := ⟨2, ![3, 1536]⟩
abbrev S2x3x1536 : Shape := ⟨3, ![2, 3, 1536]⟩
abbrev S2x8195x1536 : Shape := ⟨3, ![2, 8195, 1536]⟩
abbrev S1x1536 : Shape := ⟨2, ![1, 1536]⟩
abbrev S1536 : Shape := ⟨1, ![1536]⟩
abbrev S1x1x1536 : Shape := ⟨3, ![1, 1, 1536]⟩
abbrev S2x8192x4x128 : Shape := ⟨4, ![2, 8192, 4, 128]⟩
abbrev S2x8192x4x1 : Shape := ⟨4, ![2, 8192, 4, 1]⟩
abbrev S1x1x4 : Shape := ⟨3, ![1, 1, 4]⟩
abbrev S2x8192x120 : Shape := ⟨3, ![2, 8192, 120]⟩
abbrev S2x8192x128 : Shape := ⟨3, ![2, 8192, 128]⟩
abbrev S2x8x512 : Shape := ⟨3, ![2, 8, 512]⟩
abbrev S2x8x1536 : Shape := ⟨3, ![2, 8, 1536]⟩

abbrev nBuf : Space → Nat
  | .hbm => 196
  | .vmem => 0
  | .smem => 0
  | _ => 0

abbrev hbmTy0_0 (i : Nat) : BufTy := match i % 128 with
  | 0 => ⟨S2x8192x1024, .f32⟩
  | 1 => ⟨S8x512, .f32⟩
  | 2 => ⟨S8x1536, .f32⟩
  | 3 => ⟨S1024, .f32⟩
  | 4 => ⟨S1024x3592, .f32⟩
  | 5 => ⟨S3x512, .f32⟩
  | 6 => ⟨S512, .f32⟩
  | 7 => ⟨S4x1536, .f32⟩
  | 8 => ⟨S4, .f32⟩
  | 9 => ⟨S4, .f32⟩
  | 10 => ⟨S2x8192x1024, .f32⟩
  | 11 => ⟨S_, .f32⟩
  | 12 => ⟨S2x8192, .f32⟩
  | 13 => ⟨S2x8192x1, .f32⟩
  | 14 => ⟨S_, .f32⟩
  | 15 => ⟨S2x8192x1, .f32⟩
  | 16 => ⟨S2x8192x1, .f32⟩
  | 17 => ⟨S_, .f32⟩
  | 18 => ⟨S2x8192x1, .f32⟩
  | 19 => ⟨S2x8192x1, .f32⟩
  | 20 => ⟨S2x8192x1, .f32⟩
  | 21 => ⟨S2x8192x1024, .f32⟩
  | 22 => ⟨S2x8192x1024, .f32⟩
  | 23 => ⟨S1x1x1024, .f32⟩
  | 24 => ⟨S2x8192x1024, .f32⟩
  | 25 => ⟨S2x8192x1024, .f32⟩
  | 26 => ⟨S2x8192x3592, .f32⟩
  | 27 => ⟨S2x8192x512, .f32⟩
  | 28 => ⟨S2x8192x512, .f32⟩
  | 29 => ⟨S2x8192x512, .f32⟩
  | 30 => ⟨S2x8192x1536, .f32⟩
  | 31 => ⟨S2x8192x512, .f32⟩
  | 32 => ⟨S2x8192x4, .f32⟩
  | 33 => ⟨S2x8192x4, .f32⟩
  | 34 => ⟨S2x8192x512, .f32⟩
  | 35 => ⟨S2x512, .f32⟩
  | 36 => ⟨S2x2x512, .f32⟩
  | 37 => ⟨S2x8194x512, .f32⟩
  | 38 => ⟨S2x8192x512, .f32⟩
  | 39 => ⟨S1x512, .f32⟩
  | 40 => ⟨S512, .f32⟩
  | 41 => ⟨S1x1x512, .f32⟩
  | 42 => ⟨S2x8192x512, .f32⟩
  | 43 => ⟨S2x8192x512, .f32⟩
  | 44 => ⟨S2x8192x512, .f32⟩
  | 45 => ⟨S1x512, .f32⟩
  | 46 => ⟨S512, .f32⟩
  | 47 => ⟨S1x1x512, .f32⟩
  | 48 => ⟨S2x8192x512, .f32⟩
  | 49 => ⟨S2x8192x512, .f32⟩
  | 50 => ⟨S2x8192x512, .f32⟩
  | 51 => ⟨S2x8192x512, .f32⟩
  | 52 => ⟨S1x512, .f32⟩
  | 53 => ⟨S512, .f32⟩
  | 54 => ⟨S1x1x512, .f32⟩
  | 55 => ⟨S2x8192x512, .f32⟩
  | 56 => ⟨S2x8192x512, .f32⟩
  | 57 => ⟨S2x8192x512, .f32⟩
  | 58 => ⟨S2x8192x512, .f32⟩
  | 59 => ⟨S2x8192x8x64, .f32⟩
  | 60 => ⟨S8x64, .f32⟩
  | 61 => ⟨S2x8192x8x64, .f32⟩
  | 62 => ⟨S_, .f32⟩
  | 63 => ⟨S2x8192x8, .f32⟩
  | 64 => ⟨S2x8192x8x1, .f32⟩
  | 65 => ⟨S_, .f32⟩
  | 66 => ⟨S2x8192x8x1, .f32⟩
  | 67 => ⟨S2x8192x8x1, .f32⟩
  | 68 => ⟨S_, .f32⟩
  | 69 => ⟨S2x8192x8x1, .f32⟩
  | 70 => ⟨S2x8192x8x1, .f32⟩
  | 71 => ⟨S2x8192x8x1, .f32⟩
  | 72 => ⟨S2x8192x8x64, .f32⟩
  | 73 => ⟨S2x8192x8x64, .f32⟩
  | 74 => ⟨S1x1x8x64, .f32⟩
  | 75 => ⟨S2x8192x8x64, .f32⟩
  | 76 => ⟨S2x8192x8x64, .f32⟩
  | 77 => ⟨S3x1536, .f32⟩
  | 78 => ⟨S2x3x1536, .f32⟩
  | 79 => ⟨S2x8195x1536, .f32⟩
  | 80 => ⟨S2x8192x1536, .f32⟩
  | 81 => ⟨S1x1536, .f32⟩
  | 82 => ⟨S1536, .f32⟩
  | 83 => ⟨S1x1x1536, .f32⟩
  | 84 => ⟨S2x8192x1536, .f32⟩
  | 85 => ⟨S2x8192x1536, .f32⟩
  | 86 => ⟨S2x8192x1536, .f32⟩
  | 87 => ⟨S1x1536, .f32⟩
  | 88 => ⟨S1536, .f32⟩
  | 89 => ⟨S1x1x1536, .f32⟩
  | 90 => ⟨S2x8192x1536, .f32⟩
  | 91 => ⟨S2x8192x1536, .f32⟩
  | 92 => ⟨S2x8192x1536, .f32⟩
  | 93 => ⟨S2x8192x1536, .f32⟩
  | 94 => ⟨S1x1536, .f32⟩
  | 95 => ⟨S1536, .f32⟩
  | 96 => ⟨S1x1x1536, .f32⟩
  | 97 => ⟨S2x8192x1536, .f32⟩
  | 98 => ⟨S2x8192x1536, .f32⟩
  | 99 => ⟨S2x8192x1536, .f32⟩
  | 100 => ⟨S2x8192x1536, .f32⟩
  | 101 => ⟨S1x1536, .f32⟩
  | 102 => ⟨S1536, .f32⟩
  | 103 => ⟨S1x1x1536, .f32⟩
  | 104 => ⟨S2x8192x1536, .f32⟩
  | 105 => ⟨S2x8192x1536, .f32⟩
  | 106 => ⟨S2x8192x1536, .f32⟩
  | 107 => ⟨S2x8192x512, .f32⟩
  | 108 => ⟨S2x8192x512, .f32⟩
  | 109 => ⟨S2x8192x512, .f32⟩
  | 110 => ⟨S2x8192x512, .f32⟩
  | 111 => ⟨S2x8192x512, .f32⟩
  | 112 => ⟨S_, .f32⟩
  | 113 => ⟨S2x8192x512, .f32⟩
  | 114 => ⟨S2x8192x512, .f32⟩
  | 115 => ⟨S_, .f32⟩
  | 116 => ⟨S2x8192x512, .f32⟩
  | 117 => ⟨S2x8192x512, .f32⟩
  | 118 => ⟨S2x8192x512, .f32⟩
  | 119 => ⟨S2x8192x4x128, .f32⟩
  | 120 => ⟨S2x8192x4x128, .f32⟩
  | 121 => ⟨S_, .f32⟩
  | 122 => ⟨S2x8192x4, .f32⟩
  | 123 => ⟨S2x8192x4x1, .f32⟩
  | 124 => ⟨S_, .f32⟩
  | 125 => ⟨S2x8192x4x1, .f32⟩
  | 126 => ⟨S2x8192x4x1, .f32⟩
  | 127 => ⟨S2x8192x4x1, .f32⟩
  | _ => ⟨S2x8192x1024, .f32⟩

abbrev hbmTy0_1 (i : Nat) : BufTy := match i % 128 with
  | 0 => ⟨S2x8192x4x128, .f32⟩
  | 1 => ⟨S2x8192x4x128, .f32⟩
  | 2 => ⟨S_, .f32⟩
  | 3 => ⟨S_, .f32⟩
  | 4 => ⟨S2x8192x4x128, .f32⟩
  | 5 => ⟨S2x8192x4x128, .f32⟩
  | 6 => ⟨S2x8192x512, .f32⟩
  | 7 => ⟨S2x8192x512, .f32⟩
  | 8 => ⟨S_, .f32⟩
  | 9 => ⟨S2x8192x512, .f32⟩
  | 10 => ⟨S2x8192x512, .f32⟩
  | 11 => ⟨S_, .f32⟩
  | 12 => ⟨S2x8192x512, .f32⟩
  | 13 => ⟨S2x8192x512, .f32⟩
  | 14 => ⟨S2x8192x512, .f32⟩
  | 15 => ⟨S2x8192x4x128, .f32⟩
  | 16 => ⟨S2x8192x4x128, .f32⟩
  | 17 => ⟨S_, .f32⟩
  | 18 => ⟨S2x8192x4, .f32⟩
  | 19 => ⟨S2x8192x4x1, .f32⟩
  | 20 => ⟨S_, .f32⟩
  | 21 => ⟨S2x8192x4x1, .f32⟩
  | 22 => ⟨S2x8192x4x1, .f32⟩
  | 23 => ⟨S2x8192x4x1, .f32⟩
  | 24 => ⟨S2x8192x4x128, .f32⟩
  | 25 => ⟨S2x8192x4x128, .f32⟩
  | 26 => ⟨S2x8192x512, .f32⟩
  | 27 => ⟨S2x8192x512, .f32⟩
  | 28 => ⟨S_, .f32⟩
  | 29 => ⟨S2x8192x512, .f32⟩
  | 30 => ⟨S2x8192x512, .f32⟩
  | 31 => ⟨S_, .f32⟩
  | 32 => ⟨S2x8192x512, .f32⟩
  | 33 => ⟨S2x8192x512, .f32⟩
  | 34 => ⟨S2x8192x512, .f32⟩
  | 35 => ⟨S2x8192x4, .f32⟩
  | 36 => ⟨S2x8192x4, .f32⟩
  | 37 => ⟨S_, .f32⟩
  | 38 => ⟨S2x8192x4, .f32⟩
  | 39 => ⟨S2x8192x4, .f32⟩
  | 40 => ⟨S_, .f32⟩
  | 41 => ⟨S2x8192x4, .f32⟩
  | 42 => ⟨S2x8192x4, .f32⟩
  | 43 => ⟨S4, .f32⟩
  | 44 => ⟨S4, .f32⟩
  | 45 => ⟨S1x1x4, .f32⟩
  | 46 => ⟨S2x8192x4, .f32⟩
  | 47 => ⟨S2x8192x4, .f32⟩
  | 48 => ⟨S_, .f32⟩
  | 49 => ⟨S2x8192x4, .f32⟩
  | 50 => ⟨S2x8192x4, .f32⟩
  | 51 => ⟨S2x8192x4, .f32⟩
  | 52 => ⟨S2x8192x4, .f32⟩
  | 53 => ⟨S2x8192x4, .f32⟩
  | 54 => ⟨S2x8192x4, .f32⟩
  | 55 => ⟨S2x8192x4, .f32⟩
  | 56 => ⟨S1x1x4, .f32⟩
  | 57 => ⟨S2x8192x4, .f32⟩
  | 58 => ⟨S2x8192x4, .f32⟩
  | 59 => ⟨S_, .f32⟩
  | 60 => ⟨S2x8192x120, .f32⟩
  | 61 => ⟨S2x8192x128, .f32⟩
  | 62 => ⟨S2x8192x512, .f32⟩
  | 63 => ⟨S2x8192x512, .bf16⟩
  | 64 => ⟨S2x8192x512, .f32⟩
  | 65 => ⟨S2x8192x512, .f32⟩
  | 66 => ⟨S2x8x512, .f32⟩
  | 67 => ⟨S2x8x1536, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_2 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_v52 : Ref sig .tc := ⟨.hbm, 67, rfl⟩
abbrev main_cst_4 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_5 : Ref sig .tc := ⟨.hbm, 112, rfl⟩
abbrev main_v96 : Ref sig .tc := ⟨.hbm, 113, rfl⟩
abbrev main_v97 : Ref sig .tc := ⟨.hbm, 114, rfl⟩
abbrev main_cst_6 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_7 : Ref sig .tc := ⟨.hbm, 121, rfl⟩
abbrev main_v103 : Ref sig .tc := ⟨.hbm, 122, rfl⟩
abbrev main_v104 : Ref sig .tc := ⟨.hbm, 123, rfl⟩
abbrev main_cst_8 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_9 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_10 : Ref sig .tc := ⟨.hbm, 136, rfl⟩
abbrev main_v115 : Ref sig .tc := ⟨.hbm, 137, rfl⟩
abbrev main_v116 : Ref sig .tc := ⟨.hbm, 138, rfl⟩
abbrev main_cst_11 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_cst_12 : Ref sig .tc := ⟨.hbm, 145, rfl⟩
abbrev main_v122 : Ref sig .tc := ⟨.hbm, 146, rfl⟩
abbrev main_v123 : Ref sig .tc := ⟨.hbm, 147, rfl⟩
abbrev main_cst_13 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_cst_14 : Ref sig .tc := ⟨.hbm, 156, rfl⟩
abbrev main_v131 : Ref sig .tc := ⟨.hbm, 157, rfl⟩
abbrev main_v132 : Ref sig .tc := ⟨.hbm, 158, rfl⟩
abbrev main_cst_15 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_16 : Ref sig .tc := ⟨.hbm, 165, rfl⟩
abbrev main_v138 : Ref sig .tc := ⟨.hbm, 166, rfl⟩
abbrev main_v139 : Ref sig .tc := ⟨.hbm, 167, rfl⟩
abbrev main_cst_17 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_cst_18 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_cst_19 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩

abbrev nD : Nat := 1
abbrev τ : Topo := Topo.v7x

variable {F : FTy → Type} [FloatOps F]
-- ==== Proof.RunI.lean ====
/- The body of the projections call at a grid point that is not the first of its batch: the scratch holds what the point
   before left, the body runs, and what its stores leave in each buffer is found by the run. -/
module

public import proofs.«01_k».proof.Proof.Gen.Kernel2Ideal.Frame.RunA

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1400000 in
/-- What the body's stores leave in each output's buffer and in the scratch, at a point that is not the first of its
    batch, with the proof that the body runs. -/
noncomputable def kernelRun0_B (c : Dev nD) (i : grid0.Coords) (arg2 : Memref sig .tc .vmem S1x512x1024 .f32) (harg2 : arg2.IsWhole) (arg3 : Memref sig .tc .vmem S8x512 .f32) (harg3 : arg3.IsWhole) (arg4 : Memref sig .tc .vmem S8x1536 .f32) (harg4 : arg4.IsWhole) (arg5 : Memref sig .tc .vmem S1x1024 .f32) (harg5 : arg5.IsWhole) (arg6 : Memref sig .tc .vmem S1024x1536 .bf16) (harg6 : arg6.IsWhole) (arg7 : Memref sig .tc .vmem S1024x1536 .bf16) (harg7 : arg7.IsWhole) (arg8 : Memref sig .tc .vmem S1024x512 .bf16) (harg8 : arg8.IsWhole) (arg9 : Memref sig .tc .vmem S1024x128 .bf16) (harg9 : arg9.IsWhole) (arg10 : Memref sig .tc .vmem S3x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S4x1536 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x512x512 .bf16) (harg16 : arg16.IsWhole) (arg17 : Memref sig .tc .vmem S1x512x512 .f32) (harg17 : arg17.IsWhole) (arg18 : Memref sig .tc .vmem S1x512x512 .f32) (harg18 : arg18.IsWhole) (arg19 : Memref sig .tc .vmem S1x512x512 .f32) (harg19 : arg19.IsWhole) (arg20 : Memref sig .tc .vmem S1x512x512 .f32) (harg20 : arg20.IsWhole) (arg21 : Memref sig .tc .vmem S1x512x128 .f32) (harg21 : arg21.IsWhole) (arg22 : Memref sig .tc .vmem S1x8x512 .f32) (harg22 : arg22.IsWhole) (arg23 : Memref sig .tc .vmem S1x8x1536 .f32) (harg23 : arg23.IsWhole) (arg24 : Memref sig .tc .vmem S520x512 .f32) (harg24 : arg24.IsWhole) (arg25 : Memref sig .tc .vmem S520x1536 .f32) (harg25 : arg25.IsWhole) (hc0 : ¬cond0_0 i)
    (x0 : Vec F S1x512x1024 .f32) (x1 : Vec F S8x512 .f32) (x2 : Vec F S8x1536 .f32) (x3 : Vec F S1x1024 .f32) (x4 : Vec F S1024x1536 .bf16) (x5 : Vec F S1024x1536 .bf16) (x6 : Vec F S1024x512 .bf16) (x7 : Vec F S1024x128 .bf16) (x8 : Vec F S3x512 .f32) (x9 : Vec F S1x512 .f32) (x10 : Vec F S512x512 .bf16) (x11 : Vec F S4x1536 .f32) (x12 : Vec F S1x128 .f32) (x13 : Vec F S1x128 .f32) (xs0 : Vec F S520x512 .f32) (xs1 : Vec F S520x1536 .f32) :
    Σ' (L14 : List (View.Piece (Elt F) S1x512x512 .bf16)), Σ' (L15 : List (View.Piece (Elt F) S1x512x512 .f32)), Σ' (L16 : List (View.Piece (Elt F) S1x512x512 .f32)), Σ' (L17 : List (View.Piece (Elt F) S1x512x512 .f32)), Σ' (L18 : List (View.Piece (Elt F) S1x512x512 .f32)), Σ' (L19 : List (View.Piece (Elt F) S1x512x128 .f32)), Σ' (L20 : List (View.Piece (Elt F) S1x8x512 .f32)), Σ' (L21 : List (View.Piece (Elt F) S1x8x1536 .f32)), Σ' (LS0 : List (View.Piece (Elt F) S520x512 .f32)), { LS1 : List (View.Piece (Elt F) S520x1536 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ owns (c : Thread nD τ) arg25 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg24.eq_unread hfs0; obtain rfl := harg25.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexists _; iexact HS0
    iexists _; iexact HS1

end Cert.Kernel2Ideal.Gen

end
-- ==== Proof.FrameI.lean ====
/- What the projections call leaves in its outputs and its scratch, point by point, that its body does so, and that the
   launch ends with the arguments unchanged. -/
module

public import proofs.«01_k».proof.Proof.RunI
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The body's run at a point that is the first of its batch. -/
abbrev runA (c : Dev nD) (t : Fin cfg0.N) (h0 : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The body's run at any other point, over the contents the scratch comes with. -/
abbrev runB (c : Dev nD) (t : Fin cfg0.N) (h0 : ¬t.val % 16 = 0) (xs0 : Vec F S520x512 .f32) (xs1 : Vec F S520x1536 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xs0 xs1

/-- Case A's pieces cover output 14's block. -/
theorem cover0_A_14 (c : Dev nD) (t : Fin cfg0.N) (h0 : t.val % 16 = 0) (y : S1x512x512.Idx) :
    ∃ pc ∈ (runA m c t h0).1, y ∈ pc.1.set :=
  View.cover_of_tiledL (runA m c t h0).1 S1x512x512.size (by sl_kernel_rfl) y

/-- What case A leaves in output 14's buffer. -/
def out0_A_14 (c : Dev nD) (t : Fin cfg0.N) (h0 : t.val % 16 = 0) : Vec F S1x512x512 .bf16 :=
  VO0_14.read (Elt F) (VO0_14.writes (Elt F) VO0_14.junk (runA m c t h0).1)

/-- Case A's pieces cover output 15's block. -/
theorem cover0_A_15 (c : Dev nD) (t : Fin cfg0.N) (h0 : t.val % 16 = 0) (y : S1x512x512.Idx) :
    ∃ pc ∈ (runA m c t h0).2.1, y ∈ pc.1.set :=
  View.cover_of_tiledL (runA m c t h0).2.1 S1x512x128.size (by sl_kernel_rfl) y

/-- What case A leaves in output 15's buffer. -/
def out0_A_15 (c : Dev nD) (t : Fin cfg0.N) (h0 : t.val % 16 = 0) : Vec F S1x512x512 .f32 :=
  VO0_15.read (Elt F) (VO0_15.writes (Elt F) VO0_15.junk (runA m c t h0).2.1)

/-- Case A's pieces cover output 16's block. -/
theorem cover0_A_16 (c : Dev nD) (t : Fin cfg0.N) (h0 : t.val % 16 = 0) (y : S1x512x512.Idx) :
    ∃ pc ∈ (runA m c t h0).2.2.1, y ∈ pc.1.set :=
  View.cover_of_tiledL (runA m c t h0).2.2.1 S1x512x128.size (by sl_kernel_rfl) y

/-- What case A leaves in output 16's buffer. -/
def out0_A_16 (c : Dev nD) (t : Fin cfg0.N) (h0 : t.val % 16 = 0) : Vec F S1x512x512 .f32 :=
  VO0_16.read (Elt F) (VO0_16.writes (Elt F) VO0_16.junk (runA m c t h0).2.2.1)

/-- Case A's pieces cover output 17's block. -/
theorem cover0_A_17 (c : Dev nD) (t : Fin cfg0.N) (h0 : t.val % 16 = 0) (y : S1x512x512.Idx) :
    ∃ pc ∈ (runA m c t h0).2.2.2.1, y ∈ pc.1.set :=
  View.cover_of_tiledL (runA m c t h0).2.2.2.1 S1x512x512.size (by sl_kernel_rfl) y

/-- What case A leaves in output 17's buffer. -/
def out0_A_17 (c : Dev nD) (t : Fin cfg0.N) (h0 : t.val % 16 = 0) : Vec F S1x512x512 .f32 :=
  VO0_17.read (Elt F) (VO0_17.writes (Elt F) VO0_17.junk (runA m c t h0).2.2.2.1)

/-- Case A's pieces cover output 18's block. -/
theorem cover0_A_18 (c : Dev nD) (t : Fin cfg0.N) (h0 : t.val % 16 = 0) (y : S1x512x512.Idx) :
    ∃ pc ∈ (runA m c t h0).2.2.2.2.1, y ∈ pc.1.set :=
  View.cover_of_tiledL (runA m c t h0).2.2.2.2.1 S1x512x512.size (by sl_kernel_rfl) y

/-- What case A leaves in output 18's buffer. -/
def out0_A_18 (c : Dev nD) (t : Fin cfg0.N) (h0 : t.val % 16 = 0) : Vec F S1x512x512 .f32 :=
  VO0_18.read (Elt F) (VO0_18.writes (Elt F) VO0_18.junk (runA m c t h0).2.2.2.2.1)

/-- Case A's pieces cover output 19's block. -/
theorem cover0_A_19 (c : Dev nD) (t : Fin cfg0.N) (h0 : t.val % 16 = 0) (y : S1x512x128.Idx) :
    ∃ pc ∈ (runA m c t h0).2.2.2.2.2.1, y ∈ pc.1.set :=
  View.cover_of_tiledL (runA m c t h0).2.2.2.2.2.1 S1x512x128.size (by sl_kernel_rfl) y

/-- What case A leaves in output 19's buffer. -/
def out0_A_19 (c : Dev nD) (t : Fin cfg0.N) (h0 : t.val % 16 = 0) : Vec F S1x512x128 .f32 :=
  VO0_19.read (Elt F) (VO0_19.writes (Elt F) VO0_19.junk (runA m c t h0).2.2.2.2.2.1)

/-- Case A's pieces cover output 20's block. -/
theorem cover0_A_20 (c : Dev nD) (t : Fin cfg0.N) (h0 : t.val % 16 = 0) (y : S1x8x512.Idx) :
    ∃ pc ∈ (runA m c t h0).2.2.2.2.2.2.1, y ∈ pc.1.set :=
  View.cover_of_tiledL (runA m c t h0).2.2.2.2.2.2.1 S1x8x512.size (by sl_kernel_rfl) y

/-- What case A leaves in output 20's buffer. -/
def out0_A_20 (c : Dev nD) (t : Fin cfg0.N) (h0 : t.val % 16 = 0) : Vec F S1x8x512 .f32 :=
  VO0_20.read (Elt F) (VO0_20.writes (Elt F) VO0_20.junk (runA m c t h0).2.2.2.2.2.2.1)

/-- Case A's pieces cover output 21's block. -/
theorem cover0_A_21 (c : Dev nD) (t : Fin cfg0.N) (h0 : t.val % 16 = 0) (y : S1x8x1536.Idx) :
    ∃ pc ∈ (runA m c t h0).2.2.2.2.2.2.2.1, y ∈ pc.1.set :=
  View.cover_of_tiledL (runA m c t h0).2.2.2.2.2.2.2.1 S1x8x1536.size (by sl_kernel_rfl) y

/-- What case A leaves in output 21's buffer. -/
def out0_A_21 (c : Dev nD) (t : Fin cfg0.N) (h0 : t.val % 16 = 0) : Vec F S1x8x1536 .f32 :=
  VO0_21.read (Elt F) (VO0_21.writes (Elt F) VO0_21.junk (runA m c t h0).2.2.2.2.2.2.2.1)

/-- Case A's pieces cover the scratch. -/
theorem scover0_A_0 (c : Dev nD) (t : Fin cfg0.N) (h0 : t.val % 16 = 0) (y : S520x512.Idx) :
    ∃ pc ∈ (runA m c t h0).2.2.2.2.2.2.2.2.1, y ∈ pc.1.set :=
  View.cover_of_tiledBy (runA m c t h0).2.2.2.2.2.2.2.2.1 ![8, 512] (by sl_kernel_rfl) y

/-- What case A leaves in scratch `arg24`: its pieces read back over junk. -/
def sout0_A_0 (c : Dev nD) (t : Fin cfg0.N) (h0 : t.val % 16 = 0) : Vec F S520x512 .f32 :=
  VS0_0.read (Elt F) (VS0_0.writes (Elt F) VS0_0.junk (runA m c t h0).2.2.2.2.2.2.2.2.1)

/-- Case A's pieces cover the scratch. -/
theorem scover0_A_1 (c : Dev nD) (t : Fin cfg0.N) (h0 : t.val % 16 = 0) (y : S520x1536.Idx) :
    ∃ pc ∈ (runA m c t h0).2.2.2.2.2.2.2.2.2.1, y ∈ pc.1.set :=
  View.cover_of_tiledBy (runA m c t h0).2.2.2.2.2.2.2.2.2.1 ![8, 1536] (by sl_kernel_rfl) y

/-- What case A leaves in scratch `arg25`: its pieces read back over junk. -/
def sout0_A_1 (c : Dev nD) (t : Fin cfg0.N) (h0 : t.val % 16 = 0) : Vec F S520x1536 .f32 :=
  VS0_1.read (Elt F) (VS0_1.writes (Elt F) VS0_1.junk (runA m c t h0).2.2.2.2.2.2.2.2.2.1)

/-- Case B's pieces cover output 14's block. -/
theorem cover0_B_14 (c : Dev nD) (t : Fin cfg0.N) (h0 : ¬t.val % 16 = 0) (xs0 : Vec F S520x512 .f32) (xs1 : Vec F S520x1536 .f32) (y : S1x512x512.Idx) :
    ∃ pc ∈ (runB m c t h0 xs0 xs1).1, y ∈ pc.1.set :=
  View.cover_of_tiledL (runB m c t h0 xs0 xs1).1 S1x512x512.size (by sl_kernel_rfl) y

/-- What case B leaves in output 14's buffer. -/
def out0_B_14 (c : Dev nD) (t : Fin cfg0.N) (h0 : ¬t.val % 16 = 0) (xs0 : Vec F S520x512 .f32) (xs1 : Vec F S520x1536 .f32) : Vec F S1x512x512 .bf16 :=
  VO0_14.read (Elt F) (VO0_14.writes (Elt F) VO0_14.junk (runB m c t h0 xs0 xs1).1)

/-- Case B's pieces cover output 15's block. -/
theorem cover0_B_15 (c : Dev nD) (t : Fin cfg0.N) (h0 : ¬t.val % 16 = 0) (xs0 : Vec F S520x512 .f32) (xs1 : Vec F S520x1536 .f32) (y : S1x512x512.Idx) :
    ∃ pc ∈ (runB m c t h0 xs0 xs1).2.1, y ∈ pc.1.set :=
  View.cover_of_tiledL (runB m c t h0 xs0 xs1).2.1 S1x512x128.size (by sl_kernel_rfl) y

/-- What case B leaves in output 15's buffer. -/
def out0_B_15 (c : Dev nD) (t : Fin cfg0.N) (h0 : ¬t.val % 16 = 0) (xs0 : Vec F S520x512 .f32) (xs1 : Vec F S520x1536 .f32) : Vec F S1x512x512 .f32 :=
  VO0_15.read (Elt F) (VO0_15.writes (Elt F) VO0_15.junk (runB m c t h0 xs0 xs1).2.1)

/-- Case B's pieces cover output 16's block. -/
theorem cover0_B_16 (c : Dev nD) (t : Fin cfg0.N) (h0 : ¬t.val % 16 = 0) (xs0 : Vec F S520x512 .f32) (xs1 : Vec F S520x1536 .f32) (y : S1x512x512.Idx) :
    ∃ pc ∈ (runB m c t h0 xs0 xs1).2.2.1, y ∈ pc.1.set :=
  View.cover_of_tiledL (runB m c t h0 xs0 xs1).2.2.1 S1x512x128.size (by sl_kernel_rfl) y

/-- What case B leaves in output 16's buffer. -/
def out0_B_16 (c : Dev nD) (t : Fin cfg0.N) (h0 : ¬t.val % 16 = 0) (xs0 : Vec F S520x512 .f32) (xs1 : Vec F S520x1536 .f32) : Vec F S1x512x512 .f32 :=
  VO0_16.read (Elt F) (VO0_16.writes (Elt F) VO0_16.junk (runB m c t h0 xs0 xs1).2.2.1)

/-- Case B's pieces cover output 17's block. -/
theorem cover0_B_17 (c : Dev nD) (t : Fin cfg0.N) (h0 : ¬t.val % 16 = 0) (xs0 : Vec F S520x512 .f32) (xs1 : Vec F S520x1536 .f32) (y : S1x512x512.Idx) :
    ∃ pc ∈ (runB m c t h0 xs0 xs1).2.2.2.1, y ∈ pc.1.set :=
  View.cover_of_tiledL (runB m c t h0 xs0 xs1).2.2.2.1 S1x512x512.size (by sl_kernel_rfl) y

/-- What case B leaves in output 17's buffer. -/
def out0_B_17 (c : Dev nD) (t : Fin cfg0.N) (h0 : ¬t.val % 16 = 0) (xs0 : Vec F S520x512 .f32) (xs1 : Vec F S520x1536 .f32) : Vec F S1x512x512 .f32 :=
  VO0_17.read (Elt F) (VO0_17.writes (Elt F) VO0_17.junk (runB m c t h0 xs0 xs1).2.2.2.1)

/-- Case B's pieces cover output 18's block. -/
theorem cover0_B_18 (c : Dev nD) (t : Fin cfg0.N) (h0 : ¬t.val % 16 = 0) (xs0 : Vec F S520x512 .f32) (xs1 : Vec F S520x1536 .f32) (y : S1x512x512.Idx) :
    ∃ pc ∈ (runB m c t h0 xs0 xs1).2.2.2.2.1, y ∈ pc.1.set :=
  View.cover_of_tiledL (runB m c t h0 xs0 xs1).2.2.2.2.1 S1x512x512.size (by sl_kernel_rfl) y

/-- What case B leaves in output 18's buffer. -/
def out0_B_18 (c : Dev nD) (t : Fin cfg0.N) (h0 : ¬t.val % 16 = 0) (xs0 : Vec F S520x512 .f32) (xs1 : Vec F S520x1536 .f32) : Vec F S1x512x512 .f32 :=
  VO0_18.read (Elt F) (VO0_18.writes (Elt F) VO0_18.junk (runB m c t h0 xs0 xs1).2.2.2.2.1)

/-- Case B's pieces cover output 19's block. -/
theorem cover0_B_19 (c : Dev nD) (t : Fin cfg0.N) (h0 : ¬t.val % 16 = 0) (xs0 : Vec F S520x512 .f32) (xs1 : Vec F S520x1536 .f32) (y : S1x512x128.Idx) :
    ∃ pc ∈ (runB m c t h0 xs0 xs1).2.2.2.2.2.1, y ∈ pc.1.set :=
  View.cover_of_tiledL (runB m c t h0 xs0 xs1).2.2.2.2.2.1 S1x512x128.size (by sl_kernel_rfl) y

/-- What case B leaves in output 19's buffer. -/
def out0_B_19 (c : Dev nD) (t : Fin cfg0.N) (h0 : ¬t.val % 16 = 0) (xs0 : Vec F S520x512 .f32) (xs1 : Vec F S520x1536 .f32) : Vec F S1x512x128 .f32 :=
  VO0_19.read (Elt F) (VO0_19.writes (Elt F) VO0_19.junk (runB m c t h0 xs0 xs1).2.2.2.2.2.1)

/-- Case B's pieces cover output 20's block. -/
theorem cover0_B_20 (c : Dev nD) (t : Fin cfg0.N) (h0 : ¬t.val % 16 = 0) (xs0 : Vec F S520x512 .f32) (xs1 : Vec F S520x1536 .f32) (y : S1x8x512.Idx) :
    ∃ pc ∈ (runB m c t h0 xs0 xs1).2.2.2.2.2.2.1, y ∈ pc.1.set :=
  View.cover_of_tiledL (runB m c t h0 xs0 xs1).2.2.2.2.2.2.1 S1x8x512.size (by sl_kernel_rfl) y

/-- What case B leaves in output 20's buffer. -/
def out0_B_20 (c : Dev nD) (t : Fin cfg0.N) (h0 : ¬t.val % 16 = 0) (xs0 : Vec F S520x512 .f32) (xs1 : Vec F S520x1536 .f32) : Vec F S1x8x512 .f32 :=
  VO0_20.read (Elt F) (VO0_20.writes (Elt F) VO0_20.junk (runB m c t h0 xs0 xs1).2.2.2.2.2.2.1)

/-- Case B's pieces cover output 21's block. -/
theorem cover0_B_21 (c : Dev nD) (t : Fin cfg0.N) (h0 : ¬t.val % 16 = 0) (xs0 : Vec F S520x512 .f32) (xs1 : Vec F S520x1536 .f32) (y : S1x8x1536.Idx) :
    ∃ pc ∈ (runB m c t h0 xs0 xs1).2.2.2.2.2.2.2.1, y ∈ pc.1.set :=
  View.cover_of_tiledL (runB m c t h0 xs0 xs1).2.2.2.2.2.2.2.1 S1x8x1536.size (by sl_kernel_rfl) y

/-- What case B leaves in output 21's buffer. -/
def out0_B_21 (c : Dev nD) (t : Fin cfg0.N) (h0 : ¬t.val % 16 = 0) (xs0 : Vec F S520x512 .f32) (xs1 : Vec F S520x1536 .f32) : Vec F S1x8x1536 .f32 :=
  VO0_21.read (Elt F) (VO0_21.writes (Elt F) VO0_21.junk (runB m c t h0 xs0 xs1).2.2.2.2.2.2.2.1)

/-- Case B's pieces cover the scratch. -/
theorem scover0_B_0 (c : Dev nD) (t : Fin cfg0.N) (h0 : ¬t.val % 16 = 0) (xs0 : Vec F S520x512 .f32) (xs1 : Vec F S520x1536 .f32) (y : S520x512.Idx) :
    ∃ pc ∈ (runB m c t h0 xs0 xs1).2.2.2.2.2.2.2.2.1, y ∈ pc.1.set :=
  View.cover_of_tiledBy (runB m c t h0 xs0 xs1).2.2.2.2.2.2.2.2.1 ![8, 512] (by sl_kernel_rfl) y

/-- What case B leaves in scratch `arg24`: its pieces read back over junk. -/
def sout0_B_0 (c : Dev nD) (t : Fin cfg0.N) (h0 : ¬t.val % 16 = 0) (xs0 : Vec F S520x512 .f32) (xs1 : Vec F S520x1536 .f32) : Vec F S520x512 .f32 :=
  VS0_0.read (Elt F) (VS0_0.writes (Elt F) VS0_0.junk (runB m c t h0 xs0 xs1).2.2.2.2.2.2.2.2.1)

/-- Case B's pieces cover the scratch. -/
theorem scover0_B_1 (c : Dev nD) (t : Fin cfg0.N) (h0 : ¬t.val % 16 = 0) (xs0 : Vec F S520x512 .f32) (xs1 : Vec F S520x1536 .f32) (y : S520x1536.Idx) :
    ∃ pc ∈ (runB m c t h0 xs0 xs1).2.2.2.2.2.2.2.2.2.1, y ∈ pc.1.set :=
  View.cover_of_tiledBy (runB m c t h0 xs0 xs1).2.2.2.2.2.2.2.2.2.1 ![8, 1536] (by sl_kernel_rfl) y

/-- What case B leaves in scratch `arg25`: its pieces read back over junk. -/
def sout0_B_1 (c : Dev nD) (t : Fin cfg0.N) (h0 : ¬t.val % 16 = 0) (xs0 : Vec F S520x512 .f32) (xs1 : Vec F S520x1536 .f32) : Vec F S520x1536 .f32 :=
  VS0_1.read (Elt F) (VS0_1.writes (Elt F) VS0_1.junk (runB m c t h0 xs0 xs1).2.2.2.2.2.2.2.2.2.1)

/-! ## What the outputs hold after each point -/

/-- What the outputs' buffers and the two scratch buffers hold after each point, in window order, then the scratch. -/
def outsAt0 (c : Dev nD) : (n : ℕ) → n < cfg0.N → Vec F S1x512x512 .bf16 × Vec F S1x512x512 .f32 × Vec F S1x512x512 .f32 × Vec F S1x512x512 .f32 × Vec F S1x512x512 .f32 × Vec F S1x512x128 .f32 × Vec F S1x8x512 .f32 × Vec F S1x8x1536 .f32 × Vec F S520x512 .f32 × Vec F S520x1536 .f32
  | 0, hn => (out0_A_14 m c ⟨0, hn⟩ (Nat.zero_mod _), out0_A_15 m c ⟨0, hn⟩ (Nat.zero_mod _), out0_A_16 m c ⟨0, hn⟩ (Nat.zero_mod _), out0_A_17 m c ⟨0, hn⟩ (Nat.zero_mod _), out0_A_18 m c ⟨0, hn⟩ (Nat.zero_mod _), out0_A_19 m c ⟨0, hn⟩ (Nat.zero_mod _), out0_A_20 m c ⟨0, hn⟩ (Nat.zero_mod _), out0_A_21 m c ⟨0, hn⟩ (Nat.zero_mod _), sout0_A_0 m c ⟨0, hn⟩ (Nat.zero_mod _), sout0_A_1 m c ⟨0, hn⟩ (Nat.zero_mod _))
  | n + 1, hn =>
    if h0 : (n + 1) % 16 = 0 then
      (out0_A_14 m c ⟨n + 1, hn⟩ h0, out0_A_15 m c ⟨n + 1, hn⟩ h0, out0_A_16 m c ⟨n + 1, hn⟩ h0, out0_A_17 m c ⟨n + 1, hn⟩ h0, out0_A_18 m c ⟨n + 1, hn⟩ h0, out0_A_19 m c ⟨n + 1, hn⟩ h0, out0_A_20 m c ⟨n + 1, hn⟩ h0, out0_A_21 m c ⟨n + 1, hn⟩ h0, sout0_A_0 m c ⟨n + 1, hn⟩ h0, sout0_A_1 m c ⟨n + 1, hn⟩ h0)
    else
      (out0_B_14 m c ⟨n + 1, hn⟩ h0 (outsAt0 c n (Nat.lt_of_succ_lt hn)).2.2.2.2.2.2.2.2.1 (outsAt0 c n (Nat.lt_of_succ_lt hn)).2.2.2.2.2.2.2.2.2, out0_B_15 m c ⟨n + 1, hn⟩ h0 (outsAt0 c n (Nat.lt_of_succ_lt hn)).2.2.2.2.2.2.2.2.1 (outsAt0 c n (Nat.lt_of_succ_lt hn)).2.2.2.2.2.2.2.2.2, out0_B_16 m c ⟨n + 1, hn⟩ h0 (outsAt0 c n (Nat.lt_of_succ_lt hn)).2.2.2.2.2.2.2.2.1 (outsAt0 c n (Nat.lt_of_succ_lt hn)).2.2.2.2.2.2.2.2.2, out0_B_17 m c ⟨n + 1, hn⟩ h0 (outsAt0 c n (Nat.lt_of_succ_lt hn)).2.2.2.2.2.2.2.2.1 (outsAt0 c n (Nat.lt_of_succ_lt hn)).2.2.2.2.2.2.2.2.2, out0_B_18 m c ⟨n + 1, hn⟩ h0 (outsAt0 c n (Nat.lt_of_succ_lt hn)).2.2.2.2.2.2.2.2.1 (outsAt0 c n (Nat.lt_of_succ_lt hn)).2.2.2.2.2.2.2.2.2, out0_B_19 m c ⟨n + 1, hn⟩ h0 (outsAt0 c n (Nat.lt_of_succ_lt hn)).2.2.2.2.2.2.2.2.1 (outsAt0 c n (Nat.lt_of_succ_lt hn)).2.2.2.2.2.2.2.2.2, out0_B_20 m c ⟨n + 1, hn⟩ h0 (outsAt0 c n (Nat.lt_of_succ_lt hn)).2.2.2.2.2.2.2.2.1 (outsAt0 c n (Nat.lt_of_succ_lt hn)).2.2.2.2.2.2.2.2.2, out0_B_21 m c ⟨n + 1, hn⟩ h0 (outsAt0 c n (Nat.lt_of_succ_lt hn)).2.2.2.2.2.2.2.2.1 (outsAt0 c n (Nat.lt_of_succ_lt hn)).2.2.2.2.2.2.2.2.2, sout0_B_0 m c ⟨n + 1, hn⟩ h0 (outsAt0 c n (Nat.lt_of_succ_lt hn)).2.2.2.2.2.2.2.2.1 (outsAt0 c n (Nat.lt_of_succ_lt hn)).2.2.2.2.2.2.2.2.2, sout0_B_1 m c ⟨n + 1, hn⟩ h0 (outsAt0 c n (Nat.lt_of_succ_lt hn)).2.2.2.2.2.2.2.2.1 (outsAt0 c n (Nat.lt_of_succ_lt hn)).2.2.2.2.2.2.2.2.2)

/-- `outsAt0` at a point of case A: that case's contents. -/
theorem outsAt0_A (c : Dev nD) (t : Fin cfg0.N) (h0 : t.val % 16 = 0) :
    outsAt0 m c t.val t.isLt = (out0_A_14 m c t h0, out0_A_15 m c t h0, out0_A_16 m c t h0, out0_A_17 m c t h0, out0_A_18 m c t h0, out0_A_19 m c t h0, out0_A_20 m c t h0, out0_A_21 m c t h0, sout0_A_0 m c t h0, sout0_A_1 m c t h0) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = (out0_B_14 m c t h0 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_15 m c t h0 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_16 m c t h0 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_17 m c t h0 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_18 m c t h0 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_19 m c t h0 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_20 m c t h0 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, out0_B_21 m c t h0 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_0 m c t h0 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2, sout0_B_1 m c t h0 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.1) ∗ owns (c : Thread nD τ) scM0_1 fullShare ((outsAt0 m c n hn).2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.1) ∗ owns (c : Thread nD τ) scM0_1 fullShare ((outsAt0 m c (n - 1) (by omega)).2.2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2.1
    | ⟨18, _⟩ => (outsAt0 m c t.val t.isLt).2.2.2.2.1
    | ⟨19, _⟩ => (outsAt0 m c t.val t.isLt).2.2.2.2.2.1
    | ⟨20, _⟩ => (outsAt0 m c t.val t.isLt).2.2.2.2.2.2.1
    | ⟨21, _⟩ => (outsAt0 m c t.val t.isLt).2.2.2.2.2.2.2.1
    | ⟨_ + 22, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_16 (c : Dev nD) (t : Fin cfg0.N) : (dats m 0 c).after 16 t = (outsAt0 m c t.val t.isLt).2.2.1 := by dsimp only [dats]
theorem after0_17 (c : Dev nD) (t : Fin cfg0.N) : (dats m 0 c).after 17 t = (outsAt0 m c t.val t.isLt).2.2.2.1 := by dsimp only [dats]
theorem after0_18 (c : Dev nD) (t : Fin cfg0.N) : (dats m 0 c).after 18 t = (outsAt0 m c t.val t.isLt).2.2.2.2.1 := by dsimp only [dats]
theorem after0_19 (c : Dev nD) (t : Fin cfg0.N) : (dats m 0 c).after 19 t = (outsAt0 m c t.val t.isLt).2.2.2.2.2.1 := by dsimp only [dats]
theorem after0_20 (c : Dev nD) (t : Fin cfg0.N) : (dats m 0 c).after 20 t = (outsAt0 m c t.val t.isLt).2.2.2.2.2.2.1 := by dsimp only [dats]
theorem after0_21 (c : Dev nD) (t : Fin cfg0.N) : (dats m 0 c).after 21 t = (outsAt0 m c t.val t.isLt).2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 19200000 in
/-- The body at any point: the inputs' buffers hold their blocks, and the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases hz : t.val = 0
    · rw [PhiS_castSucc m c t, PhiS_zero m c _ _ hz, PhiA0_eq]
      rw [outsAt0_A m c t h0]
      unfold out0_A_14 out0_A_15 out0_A_16 out0_A_17 out0_A_18 out0_A_19 out0_A_20 out0_A_21 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runA m c t h0).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      isplitl [HS1]; · iexact HS1
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 m c t h0)
          unfold owns; iexists _; isplitr
          swap; · iexact HS1
          ipureintro; exact View.read_writes_of_cover _ _ _ _ _ (scover0_A_1 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_A_14 m c t h0)
      isplitl [H15]
      · unfold owns; iexists _; isplitr
        swap; · iexact H15
        ipureintro; exact View.read_writes_of_cover _ _ _ _ _ (cover0_A_15 m c t h0)
      isplitl [H16]
      · unfold owns; iexists _; isplitr
        swap; · iexact H16
        ipureintro; exact View.read_writes_of_cover _ _ _ _ _ (cover0_A_16 m c t h0)
      isplitl [H17]
      · unfold owns; iexists _; isplitr
        swap; · iexact H17
        ipureintro; exact View.read_writes_of_cover _ _ _ _ _ (cover0_A_17 m c t h0)
      isplitl [H18]
      · unfold owns; iexists _; isplitr
        swap; · iexact H18
        ipureintro; exact View.read_writes_of_cover _ _ _ _ _ (cover0_A_18 m c t h0)
      isplitl [H19]
      · unfold owns; iexists _; isplitr
        swap; · iexact H19
        ipureintro; exact View.read_writes_of_cover _ _ _ _ _ (cover0_A_19 m c t h0)
      isplitl [H20]
      · unfold owns; iexists _; isplitr
        swap; · iexact H20
        ipureintro; exact View.read_writes_of_cover _ _ _ _ _ (cover0_A_20 m c t h0)
      unfold owns; iexists _; isplitr
      swap; · iexact H21
      ipureintro; exact View.read_writes_of_cover _ _ _ _ _ (cover0_A_21 m c t h0)
    · rw [PhiS_castSucc m c t, PhiS_pos m c _ _ hz]
      rw [outsAt0_A m c t h0]
      unfold out0_A_14 out0_A_15 out0_A_16 out0_A_17 out0_A_18 out0_A_19 out0_A_20 out0_A_21 sout0_A_0 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runA m c t h0).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexists _; iexact HS0
      isplitl [HS1]; · iexists _; iexact HS1
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 m c t h0)
          unfold owns; iexists _; isplitr
          swap; · iexact HS1
          ipureintro; exact View.read_writes_of_cover _ _ _ _ _ (scover0_A_1 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_A_14 m c t h0)
      isplitl [H15]
      · unfold owns; iexists _; isplitr
        swap; · iexact H15
        ipureintro; exact View.read_writes_of_cover _ _ _ _ _ (cover0_A_15 m c t h0)
      isplitl [H16]
      · unfold owns; iexists _; isplitr
        swap; · iexact H16
        ipureintro; exact View.read_writes_of_cover _ _ _ _ _ (cover0_A_16 m c t h0)
      isplitl [H17]
      · unfold owns; iexists _; isplitr
        swap; · iexact H17
        ipureintro; exact View.read_writes_of_cover _ _ _ _ _ (cover0_A_17 m c t h0)
      isplitl [H18]
      · unfold owns; iexists _; isplitr
        swap; · iexact H18
        ipureintro; exact View.read_writes_of_cover _ _ _ _ _ (cover0_A_18 m c t h0)
      isplitl [H19]
      · unfold owns; iexists _; isplitr
        swap; · iexact H19
        ipureintro; exact View.read_writes_of_cover _ _ _ _ _ (cover0_A_19 m c t h0)
      isplitl [H20]
      · unfold owns; iexists _; isplitr
        swap; · iexact H20
        ipureintro; exact View.read_writes_of_cover _ _ _ _ _ (cover0_A_20 m c t h0)
      unfold owns; iexists _; isplitr
      swap; · iexact H21
      ipureintro; exact View.read_writes_of_cover _ _ _ _ _ (cover0_A_21 m c t h0)
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_14 out0_B_15 out0_B_16 out0_B_17 out0_B_18 out0_B_19 out0_B_20 out0_B_21 sout0_B_0 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply ((runB m c t h0 _ _).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [HS0]; · iexact HS0
      isplitl [HS1]; · iexact HS1
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 m c t h0 _ _)
          unfold owns; iexists _; isplitr
          swap; · iexact HS1
          ipureintro; exact View.read_writes_of_cover _ _ _ _ _ (scover0_B_1 m c t h0 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover0_B_14 m c t h0 _ _)
      isplitl [H15]
      · unfold owns; iexists _; isplitr
        swap; · iexact H15
        ipureintro; exact View.read_writes_of_cover _ _ _ _ _ (cover0_B_15 m c t h0 _ _)
      isplitl [H16]
      · unfold owns; iexists _; isplitr
        swap; · iexact H16
        ipureintro; exact View.read_writes_of_cover _ _ _ _ _ (cover0_B_16 m c t h0 _ _)
      isplitl [H17]
      · unfold owns; iexists _; isplitr
        swap; · iexact H17
        ipureintro; exact View.read_writes_of_cover _ _ _ _ _ (cover0_B_17 m c t h0 _ _)
      isplitl [H18]
      · unfold owns; iexists _; isplitr
        swap; · iexact H18
        ipureintro; exact View.read_writes_of_cover _ _ _ _ _ (cover0_B_18 m c t h0 _ _)
      isplitl [H19]
      · unfold owns; iexists _; isplitr
        swap; · iexact H19
        ipureintro; exact View.read_writes_of_cover _ _ _ _ _ (cover0_B_19 m c t h0 _ _)
      isplitl [H20]
      · unfold owns; iexists _; isplitr
        swap; · iexact H20
        ipureintro; exact View.read_writes_of_cover _ _ _ _ _ (cover0_B_20 m c t h0 _ _)
      unfold owns; iexists _; isplitr
      swap; · iexact H21
      ipureintro; exact View.read_writes_of_cover _ _ _ _ _ (cover0_B_21 m c t h0 _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- The launch, with every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch: every array of the pipeline ends at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- Every run ends, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel2Ideal.Gen

end
-- ==== Proof.ProjRun.lean ====
/- The run of the projections' launch, its result arrays named, its arguments as they were. -/
module

public import proofs.«01_k».proof.Proof.FrameI
public import Idealize.ShloMosaic.Lib.Pipeline.Value

@[expose] public section

noncomputable section

namespace Cert.Proj

open Cert.Kernel2Ideal Cert.Kernel2Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem post14 (r : PUnit × MemSt nD τ sig (Elt F)) (h : Pipeline.FramePost cfgs (dats m) 0 (V m) r) (c : Dev nD) :
    r.2.mem ((c : Thread nD τ).loc main_v24_0) = (dats m 0 c).arrAt 14 cfg0.N := (h c).1 14

theorem post15 (r : PUnit × MemSt nD τ sig (Elt F)) (h : Pipeline.FramePost cfgs (dats m) 0 (V m) r) (c : Dev nD) :
    r.2.mem ((c : Thread nD τ).loc main_v24_1) = (dats m 0 c).arrAt 15 cfg0.N := (h c).1 15

theorem post16 (r : PUnit × MemSt nD τ sig (Elt F)) (h : Pipeline.FramePost cfgs (dats m) 0 (V m) r) (c : Dev nD) :
    r.2.mem ((c : Thread nD τ).loc main_v24_2) = (dats m 0 c).arrAt 16 cfg0.N := (h c).1 16

theorem post17 (r : PUnit × MemSt nD τ sig (Elt F)) (h : Pipeline.FramePost cfgs (dats m) 0 (V m) r) (c : Dev nD) :
    r.2.mem ((c : Thread nD τ).loc main_v24_3) = (dats m 0 c).arrAt 17 cfg0.N := (h c).1 17

theorem post18 (r : PUnit × MemSt nD τ sig (Elt F)) (h : Pipeline.FramePost cfgs (dats m) 0 (V m) r) (c : Dev nD) :
    r.2.mem ((c : Thread nD τ).loc main_v24_4) = (dats m 0 c).arrAt 18 cfg0.N := (h c).1 18

theorem post19 (r : PUnit × MemSt nD τ sig (Elt F)) (h : Pipeline.FramePost cfgs (dats m) 0 (V m) r) (c : Dev nD) :
    r.2.mem ((c : Thread nD τ).loc main_v24_5) = (dats m 0 c).arrAt 19 cfg0.N := (h c).1 19

theorem post20 (r : PUnit × MemSt nD τ sig (Elt F)) (h : Pipeline.FramePost cfgs (dats m) 0 (V m) r) (c : Dev nD) :
    r.2.mem ((c : Thread nD τ).loc main_v24_6) = (dats m 0 c).arrAt 20 cfg0.N := (h c).1 20

theorem post21 (r : PUnit × MemSt nD τ sig (Elt F)) (h : Pipeline.FramePost cfgs (dats m) 0 (V m) r) (c : Dev nD) :
    r.2.mem ((c : Thread nD τ).loc main_v24_7) = (dats m 0 c).arrAt 21 cfg0.N := (h c).1 21

theorem kept0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 8).trans (((dats m 0 c).arrAt_in 8 rfl _).trans ((A_eq m c 8).trans (V_main_arg5 m c)))

theorem kept6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 11).trans (((dats m 0 c).arrAt_in 11 rfl _).trans ((A_eq m c 11).trans (V_main_arg7 m c)))

theorem kept8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The run with each result array named and the arguments unchanged. -/
theorem run_blocks : θ_run defs (onTc (τ := τ) (main (F := F))) ⟨m, fun _ => 0, ρ⟩ fun r => ∀ c : Dev nD,
      r.2.mem ((c : Thread nD τ).loc main_v24_0) = (dats m 0 c).arrAt 14 cfg0.N
      ∧ r.2.mem ((c : Thread nD τ).loc main_v24_1) = (dats m 0 c).arrAt 15 cfg0.N
      ∧ r.2.mem ((c : Thread nD τ).loc main_v24_2) = (dats m 0 c).arrAt 16 cfg0.N
      ∧ r.2.mem ((c : Thread nD τ).loc main_v24_3) = (dats m 0 c).arrAt 17 cfg0.N
      ∧ r.2.mem ((c : Thread nD τ).loc main_v24_4) = (dats m 0 c).arrAt 18 cfg0.N
      ∧ r.2.mem ((c : Thread nD τ).loc main_v24_5) = (dats m 0 c).arrAt 19 cfg0.N
      ∧ r.2.mem ((c : Thread nD τ).loc main_v24_6) = (dats m 0 c).arrAt 20 cfg0.N
      ∧ r.2.mem ((c : Thread nD τ).loc main_v24_7) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post14 m r h c, post15 m r h c, post16 m r h c, post17 m r h c, post18 m r h c, post19 m r h c, post20 m r h c, post21 m r h c,
    kept0 m r h c, kept1 m r h c, kept2 m r h c, kept3 m r h c, kept4 m r h c, kept5 m r h c, kept6 m r h c, kept7 m r h c, kept8 m r h c, kept9 m r h c⟩) (run_main m ρ)

end Cert.Proj

end
-- ==== Proof.Win.lean ====
/- The greatest entry of a finite row, earliest among equals: the position a stable descending sort puts
   first, and the value and position that a masked maximum and a minimum over the lanes find. -/
module

public import Idealize.ShloMosaic.Lib.Pointwise
public import Idealize.ShloMosaic.Lib.SortFacts

@[expose] public section

noncomputable section

namespace Cert.Route

open Idealize.ShloMosaic

/-- Entry `a` goes before entry `b`: greater, or equal and earlier. -/
def Ahead {n : Nat} (f : Fin n → EReal) (a b : Fin n) : Prop := f b < f a ∨ (f b = f a ∧ a < b)

/-- `g` goes before every other entry. -/
def Win {n : Nat} (f : Fin n → EReal) (g : Fin n) : Prop := ∀ j, j ≠ g → Ahead f g j

/-- `h` goes before every entry other than `g` and itself, and is not `g`. -/
def Win2 {n : Nat} (f : Fin n → EReal) (g h : Fin n) : Prop := h ≠ g ∧ ∀ j, j ≠ g → j ≠ h → Ahead f h j

theorem Win.le {n : Nat} {f : Fin n → EReal} {g : Fin n} (h : Win f g) (j : Fin n) : f j ≤ f g := by
  by_cases hj : j = g
  · rw [hj]
  · rcases h j hj with h | h
    · exact h.le
    · exact h.1.le

theorem Win.lt_of_lt {n : Nat} {f : Fin n → EReal} {g : Fin n} (h : Win f g) (j : Fin n) (hj : j < g) : f j < f g := by
  rcases h j hj.ne with h | h
  · exact h
  · exact absurd h.2 (not_lt.mpr hj.le)

theorem pairwise_insert {n : Nat} (f : Fin n → EReal) (before : Fin n → Fin n → Bool)
    (hb : ∀ a b, before a b = true ↔ f b < f a) (a : Fin n) (l : List (Fin n)) (ha : ∀ b ∈ l, a < b)
    (hl : l.Pairwise (Ahead f)) : (insertBefore before a l).Pairwise (Ahead f) := by
  induction l with
  | nil => exact List.pairwise_singleton _ _
  | cons b l ih =>
    rw [List.pairwise_cons] at hl
    unfold insertBefore
    by_cases h : before b a = true
    · rw [if_pos h, List.pairwise_cons]
      refine ⟨fun x hx => ?_, ih (fun x hx => ha x (List.mem_cons_of_mem _ hx)) hl.2⟩
      rcases List.mem_cons.mp ((perm_insertBefore before a l).mem_iff.mp hx) with rfl | hx
      · exact Or.inl ((hb _ _).mp h)
      · exact hl.1 x hx
    · rw [if_neg h, List.pairwise_cons]
      have hle : f b ≤ f a := not_lt.mp fun hc => h ((hb _ _).mpr hc)
      have key : ∀ x ∈ b :: l, f x ≤ f a := by
        intro x hx
        rcases List.mem_cons.mp hx with rfl | hx
        · exact hle
        · rcases hl.1 x hx with h1 | h1
          · exact h1.le.trans hle
          · exact h1.1.le.trans hle
      refine ⟨fun x hx => ?_, List.pairwise_cons.mpr hl⟩
      rcases (key x hx).lt_or_eq with h1 | h1
      · exact Or.inl h1
      · exact Or.inr ⟨h1, ha x hx⟩

theorem pairwise_sort {n : Nat} (f : Fin n → EReal) (before : Fin n → Fin n → Bool)
    (hb : ∀ a b, before a b = true ↔ f b < f a) (l : List (Fin n)) (hl : l.Pairwise (· < ·)) :
    (stableSort before l).Pairwise (Ahead f) := by
  induction l with
  | nil => exact List.Pairwise.nil
  | cons a l ih =>
    rw [List.pairwise_cons] at hl
    unfold stableSort
    exact pairwise_insert f before hb a _ (fun b hb' => hl.1 b ((perm_stableSort before l).mem_iff.mp hb')) (ih hl.2)

theorem ahead_sortedFrom {n : Nat} (f : Fin n → EReal) (before : Fin n → Fin n → Bool)
    (hb : ∀ a b, before a b = true ↔ f b < f a) (i j : Fin n) (hij : i < j) :
    Ahead f (sortedFrom before i) (sortedFrom before j) := by
  have hp := List.pairwise_iff_get.mp (pairwise_sort f before hb (List.finRange n) (List.pairwise_lt_finRange n))
  exact hp _ _ (show (i : Nat) < j from hij)

theorem win_sortedFrom {n : Nat} (f : Fin (n + 1) → EReal) (before : Fin (n + 1) → Fin (n + 1) → Bool)
    (hb : ∀ a b, before a b = true ↔ f b < f a) : Win f (sortedFrom before 0) := by
  intro j hj
  obtain ⟨k, rfl⟩ := sortedFrom_surjective before j
  refine ahead_sortedFrom f before hb 0 k ?_
  exact Fin.pos_of_ne_zero fun h => hj (by rw [h])

theorem win2_sortedFrom {n : Nat} (f : Fin (n + 2) → EReal) (before : Fin (n + 2) → Fin (n + 2) → Bool)
    (hb : ∀ a b, before a b = true ↔ f b < f a) : Win2 f (sortedFrom before 0) (sortedFrom before 1) := by
  refine ⟨fun h => ?_, fun j h0 h1 => ?_⟩
  · exact absurd (sortedFrom_injective before h) (by simp)
  · obtain ⟨k, rfl⟩ := sortedFrom_surjective before j
    refine ahead_sortedFrom f before hb 1 k ?_
    have hk0 : k ≠ 0 := fun h => h0 (by rw [h])
    have hk1 : k ≠ 1 := fun h => h1 (by rw [h])
    have : (k : Nat) ≠ 0 := fun h => hk0 (Fin.ext h)
    have h2 : (k : Nat) ≠ 1 := fun h => hk1 (Fin.ext (by simpa using h))
    rw [Fin.lt_def]
    simp only [Fin.val_one]
    omega

/-- An order kept both ways carries a winner over. -/
theorem Win.of_iff {n : Nat} {f f' : Fin n → EReal} {g : Fin n} (h : Win f g) (hm : ∀ a b, f a < f b ↔ f' a < f' b) :
    Win f' g := by
  have he : ∀ a b, f a = f b → f' a = f' b := fun a b hab => le_antisymm
    (not_lt.mp fun hc => absurd ((hm b a).mpr hc) (by rw [hab]; exact lt_irrefl _))
    (not_lt.mp fun hc => absurd ((hm a b).mpr hc) (by rw [hab]; exact lt_irrefl _))
  intro j hj
  rcases h j hj with h | h
  · exact Or.inl ((hm _ _).mp h)
  · exact Or.inr ⟨he _ _ h.1, h.2⟩

theorem Win2.of_iff {n : Nat} {f f' : Fin n → EReal} {g k : Fin n} (h : Win2 f g k) (hm : ∀ a b, f a < f b ↔ f' a < f' b) :
    Win2 f' g k := by
  have he : ∀ a b, f a = f b → f' a = f' b := fun a b hab => le_antisymm
    (not_lt.mp fun hc => absurd ((hm b a).mpr hc) (by rw [hab]; exact lt_irrefl _))
    (not_lt.mp fun hc => absurd ((hm a b).mpr hc) (by rw [hab]; exact lt_irrefl _))
  refine ⟨h.1, fun j h0 h1 => ?_⟩
  rcases h.2 j h0 h1 with h | h
  · exact Or.inl ((hm _ _).mp h)
  · exact Or.inr ⟨he _ _ h.1, h.2⟩

/-! ### The maximum and its first lane -/

theorem fold_max_win {n : Nat} {f : Fin n → EReal} {g : Fin n} (h : Win f g) :
    Finset.univ.fold max (⊥ : EReal) f = f g :=
  le_antisymm ((Finset.fold_max_le _).mpr ⟨bot_le, fun x _ => h.le x⟩)
    ((Finset.le_fold_max _).mpr (Or.inr ⟨g, Finset.mem_univ _, le_rfl⟩))

theorem fold_minsi_spec {n : Nat} (b : BitVec 32) (f : Fin n → BitVec 32) (s : Finset (Fin n)) :
    (s.fold IntOp.minsi b f).toInt ≤ b.toInt ∧ (∀ x ∈ s, (s.fold IntOp.minsi b f).toInt ≤ (f x).toInt)
      ∧ (s.fold IntOp.minsi b f = b ∨ ∃ x ∈ s, s.fold IntOp.minsi b f = f x) := by
  classical
  induction s using Finset.induction_on with
  | empty => simp
  | insert a s ha ih =>
    rw [Finset.fold_insert ha]
    obtain ⟨h1, h2, h3⟩ := ih
    have hm : ∀ u v : BitVec 32, (IntOp.minsi u v).toInt ≤ u.toInt ∧ (IntOp.minsi u v).toInt ≤ v.toInt
        ∧ (IntOp.minsi u v = u ∨ IntOp.minsi u v = v) := by
      intro u v
      unfold IntOp.minsi
      split
      · rename_i h
        simp only [BitVec.slt, decide_eq_true_eq, BitVec.sle] at h
        exact ⟨le_rfl, by omega, Or.inl rfl⟩
      · rename_i h
        simp only [BitVec.slt, decide_eq_true_eq, BitVec.sle] at h
        exact ⟨by omega, le_rfl, Or.inr rfl⟩
    obtain ⟨m1, m2, m3⟩ := hm (f a) (s.fold IntOp.minsi b f)
    refine ⟨m2.trans h1, fun x hx => ?_, ?_⟩
    · rcases Finset.mem_insert.mp hx with rfl | hx
      · exact m1
      · exact m2.trans (h2 x hx)
    · rcases m3 with h | h
      · exact Or.inr ⟨a, Finset.mem_insert_self _ _, h⟩
      · rcases h3 with h3 | ⟨x, hx, h3⟩
        · exact Or.inl (h.trans h3)
        · exact Or.inr ⟨x, Finset.mem_insert_of_mem hx, h.trans h3⟩

/-- The minimum over the lanes of "the lane's number where the entry equals the greatest, else a large number" is
    the winner's lane. -/
theorem fold_lane_win {f : Fin 128 → EReal} {g : Fin 128} (h : Win f g) (M : EReal) (hM : M = f g)
    (w : Fin 128 → BitVec 32) (hw : ∀ j, w j = if f j = M then BitVec.ofNat 32 j.val else 1048576#32) :
    Finset.univ.fold IntOp.minsi 2147483647#32 w = BitVec.ofNat 32 g.val := by
  have hval : ∀ k : Fin 128, (BitVec.ofNat 32 k.val).toInt = k.val := by decide
  obtain ⟨_, h2, h3⟩ := fold_minsi_spec 2147483647#32 w Finset.univ
  have hg : w g = BitVec.ofNat 32 g.val := by rw [hw, if_pos hM.symm]
  have hlow : ∀ x, (g.val : Int) ≤ (w x).toInt := by
    intro x
    rw [hw]
    split
    · rename_i hx
      rw [hval]
      by_contra hc
      have hlt : x < g := by rw [Fin.lt_def]; omega
      exact absurd (hx.trans hM) (h.lt_of_lt x hlt).ne
    · have : (1048576#32).toInt = 1048576 := by decide
      rw [this]
      omega
  have hle := h2 g (Finset.mem_univ _)
  rw [hg, hval] at hle
  apply BitVec.eq_of_toInt_eq
  rw [hval]
  rcases h3 with h3 | ⟨x, _, h3⟩
  · have : (2147483647#32).toInt = 2147483647 := by decide
    rw [h3, this] at hle
    omega
  · have := hlow x
    rw [h3] at hle ⊢
    omega

end Cert.Route

end
-- ==== Proof.RouteRow.lean ====
/- The routing row the kernel writes, read from its logits: the group and the two experts found by masked maxima
   over the lanes, and their weights. -/
module

public import proofs.«01_k».proof.Proof.Gen.KernelIdeal.Skeleton
public import proofs.«01_k».proof.Proof.Win
public import Idealize.ShloMosaic.Lib.Pointwise

@[expose] public section

set_option maxRecDepth 16384

noncomputable section

namespace Cert.Route

open Idealize.ShloMosaic Idealize.SL.Sem

theorem ofBits_neg_inf : Ideal.ofBits .f32 0xFF800000#32 = ⊥ := by simp [Ideal.ofBits, Ideal.ieee]

/-- The row of a token whose group is `g`, of softmax weight `p`, and whose experts in it are `e1` and `e2`, the
    second's exponential being `x` times the first's. -/
def routeRow (g : Fin 4) (e1 e2 : Fin 8) (p x : ℝ) (j : Fin 128) : EReal :=
  if j.val = 0 then ((8 * g.val + e1.val : ℕ) : ℝ)
  else if j.val = 1 then ((8 * g.val + e2.val : ℕ) : ℝ)
  else if j.val = 2 then ((1 / (1 + x) * p : ℝ) : EReal)
  else if j.val = 3 then ((x / (1 + x) * p : ℝ) : EReal)
  else 0

/-- The lane of expert `e` of group `g`. -/
def lane (g : Fin 4) (e : Fin 8) : Fin 128 := ⟨4 + 8 * g.val + e.val, by omega⟩

theorem select_ofBool {α : Type} (c : Bool) (a b : α) : Scalar.select (BitVec.ofBool c) a b = if c then a else b := by
  cases c <;> rfl

theorem lane_lt4 : ∀ j : Fin 128, IntOp.cmpi .slt (BitVec.ofNat 32 j.val) 4#32 = BitVec.ofBool (decide (j.val < 4)) := by
  decide +kernel

theorem lane_in_group : ∀ g : Fin 4, ∀ j : Fin 128,
    IntOp.andi
      (IntOp.cmpi .sge (BitVec.ofNat 32 j.val) (IntOp.addi (4#32) (IntOp.muli (BitVec.ofNat 32 g.val) 8#32)))
      (IntOp.cmpi .slt (BitVec.ofNat 32 j.val)
        (IntOp.addi (IntOp.addi (4#32) (IntOp.muli (BitVec.ofNat 32 g.val) 8#32)) 8#32))
      = BitVec.ofBool (decide (4 + 8 * g.val ≤ j.val ∧ j.val < 4 + 8 * g.val + 8)) := by
  decide +kernel

theorem lane_eq : ∀ i j : Fin 128,
    IntOp.cmpi .eq (BitVec.ofNat 32 j.val) (BitVec.ofNat 32 i.val) = BitVec.ofBool (decide (j = i)) := by
  decide +kernel

theorem lane_sub : ∀ g : Fin 4, ∀ e : Fin 8,
    (IntOp.subi (BitVec.ofNat 32 (lane g e).val) 4#32).toInt = ((8 * g.val + e.val : ℕ) : Int) := by
  decide +kernel

/-! ### The masked rows -/

def grpRow (L : Fin 128 → EReal) (j : Fin 128) : EReal := if j.val < 4 then L j else ⊥

def expRow (L : Fin 128 → EReal) (g : Fin 4) (j : Fin 128) : EReal :=
  if 4 + 8 * g.val ≤ j.val ∧ j.val < 4 + 8 * g.val + 8 then L j else ⊥

def secRow (L : Fin 128 → EReal) (g : Fin 4) (i : Fin 128) (j : Fin 128) : EReal :=
  if j = i then ⊥ else expRow L g j

def lane4 (i : Fin 4) : Fin 128 := ⟨i.val, by omega⟩

section
variable {L : Fin 128 → EReal} {lg : Fin 4 → ℝ} {le : Fin 4 → Fin 8 → ℝ} {g : Fin 4} {e1 e2 : Fin 8}

theorem win_grpRow (hL : ∀ i, L (lane4 i) = lg i) (hg : Win (fun i => (lg i : EReal)) g) :
    Win (grpRow L) (lane4 g) := by
  have hgv : grpRow L (lane4 g) = lg g := by
    unfold grpRow; rw [if_pos (show (lane4 g).val < 4 from g.isLt), hL]
  intro j hj
  by_cases h4 : j.val < 4
  · obtain ⟨i, rfl⟩ : ∃ i, j = lane4 i := ⟨⟨j.val, h4⟩, rfl⟩
    have hi : grpRow L (lane4 i) = lg i := by
      unfold grpRow; rw [if_pos (show (lane4 i).val < 4 from i.isLt), hL]
    unfold Ahead
    rw [hgv, hi]
    exact hg i fun h => hj (by rw [h])
  · refine Or.inl ?_
    rw [hgv]
    unfold grpRow
    rw [if_neg h4]
    exact EReal.bot_lt_coe _

theorem expRow_lane (hL : ∀ g e, L (lane g e) = le g e) (e : Fin 8) : expRow L g (lane g e) = le g e := by
  unfold expRow
  rw [if_pos ⟨by simp only [lane]; omega, by simp only [lane]; omega⟩, hL]

theorem expRow_out {j : Fin 128} (h : ∀ e, j ≠ lane g e) : expRow L g j = ⊥ := by
  unfold expRow
  rw [if_neg]
  rintro ⟨h1, h2⟩
  exact h ⟨j.val - (4 + 8 * g.val), by omega⟩ (Fin.ext (by simp only [lane]; omega))

theorem lane_inj {e e' : Fin 8} (h : lane g e = lane g e') : e = e' := by
  have := congrArg Fin.val h
  simp only [lane] at this
  exact Fin.ext (by omega)

theorem lane_lt {e e' : Fin 8} (h : e < e') : lane g e < lane g e' := by
  rw [Fin.lt_def] at h ⊢
  simp only [lane]
  omega

theorem win_expRow (hL : ∀ g e, L (lane g e) = le g e) (h1 : Win (fun e => (le g e : EReal)) e1) :
    Win (expRow L g) (lane g e1) := by
  intro j hj
  by_cases h : ∃ e, j = lane g e
  · obtain ⟨e, rfl⟩ := h
    unfold Ahead
    rw [expRow_lane hL, expRow_lane hL]
    rcases h1 e fun h => hj (by rw [h]) with h | h
    · exact Or.inl h
    · exact Or.inr ⟨h.1, lane_lt h.2⟩
  · refine Or.inl ?_
    rw [expRow_lane hL, expRow_out fun e he => h ⟨e, he⟩]
    exact EReal.bot_lt_coe _

theorem secRow_lane (hL : ∀ g e, L (lane g e) = le g e) {e : Fin 8} (he : e ≠ e1) :
    secRow L g (lane g e1) (lane g e) = le g e := by
  unfold secRow
  rw [if_neg fun h => he (lane_inj h), expRow_lane hL]

theorem win_secRow (hL : ∀ g e, L (lane g e) = le g e) (h2 : Win2 (fun e => (le g e : EReal)) e1 e2) :
    Win (secRow L g (lane g e1)) (lane g e2) := by
  intro j hj
  by_cases h : ∃ e, e ≠ e1 ∧ j = lane g e
  · obtain ⟨e, he, rfl⟩ := h
    unfold Ahead
    rw [secRow_lane hL he, secRow_lane hL h2.1]
    rcases h2.2 e he fun h => hj (by rw [h]) with h | h
    · exact Or.inl h
    · exact Or.inr ⟨h.1, lane_lt h.2⟩
  · refine Or.inl ?_
    rw [secRow_lane hL h2.1]
    have : secRow L g (lane g e1) j = ⊥ := by
      unfold secRow
      by_cases hj1 : j = lane g e1
      · rw [if_pos hj1]
      · rw [if_neg hj1, expRow_out]
        intro e he
        by_cases h3 : e = e1
        · exact hj1 (by rw [he, h3])
        · exact h ⟨e, h3, he⟩
    rw [this]
    exact EReal.bot_lt_coe _

end

/-! ### Real arithmetic inside the extended reals -/

theorem exp_coe (r : ℝ) : Ideal.exp (r : EReal) = (Real.exp r : EReal) := rfl

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul]
  rfl

theorem sum_coe {n : Nat} (f : Fin n → ℝ) : ∑ i, (f i : EReal) = ((∑ i, f i : ℝ) : EReal) := by
  induction n with
  | zero => simp
  | succ n ih => rw [Fin.sum_univ_succ, Fin.sum_univ_succ, ih, EReal.coe_add]

/-- The sum over the lanes of the exponentials of the group row, less its greatest. -/
theorem sum_grp {L : Fin 128 → EReal} {lg : Fin 4 → ℝ} (g : Fin 4) (hL : ∀ i, L (lane4 i) = lg i) :
    ∑ j : Fin 128, Ideal.exp (grpRow L j - (lg g : EReal)) = ((∑ i, Real.exp (lg i - lg g) : ℝ) : EReal) := by
  rw [← sum_coe]
  have := Fin.sum_univ_add (a := 4) (b := 124) (fun j : Fin (4 + 124) => Ideal.exp (grpRow L j - (lg g : EReal)))
  refine this.trans ?_
  have hz : ∀ i : Fin 124, Ideal.exp (grpRow L (Fin.natAdd 4 i) - (lg g : EReal)) = 0 := by
    intro i
    unfold grpRow
    rw [if_neg (by simp), EReal.bot_sub]
    rfl
  rw [Finset.sum_congr rfl fun i _ => hz i, Finset.sum_const_zero, add_zero]
  refine Finset.sum_congr rfl fun i _ => ?_
  have : grpRow L (Fin.castAdd 124 i) = lg i := by
    unfold grpRow
    rw [if_pos (by simp)]
    exact hL i
  rw [this, ← EReal.coe_sub, exp_coe]

/-! ### The kernel's row -/

open Cert.KernelIdeal Cert.KernelIdeal.Gen

section
variable (v155 v158 : FVec Ideal S512x128 .f32) (r : Fin 512) {L : Fin 128 → EReal}
  (hL : ∀ j, v155 (ix2 r j) + v158 (ix2 r j) = L j)
  {lg : Fin 4 → ℝ} {le : Fin 4 → Fin 8 → ℝ} {g : Fin 4} {e1 e2 : Fin 8}

include hL

theorem pay15_row (j : Fin 128) : k0_pay15 v155 v158 (ix2 r j) = L j := by
  pointwise [k0_pay15]
  exact hL j

theorem pay16_row (j : Fin 128) : k0_pay16 v155 v158 (ix2 r j) = grpRow L j := by
  pointwise [k0_pay16, k0_pay15]
  rw [hL, lane_lt4, select_ofBool, ofBits_neg_inf]
  simp only [decide_eq_true_eq]
  rfl

variable (hLg : ∀ i, L (lane4 i) = lg i) (hg : Win (fun i => (lg i : EReal)) g)
include hLg hg

theorem pay17_row (j : Fin 1) : k0_pay17 v155 v158 (ix2 r j) = lg g := by
  pointwise [k0_pay17]
  simp only [pay16_row v155 v158 r hL]
  rw [ofBits_neg_inf, fold_max_win (win_grpRow hLg hg)]
  unfold grpRow
  rw [if_pos (show (lane4 g).val < 4 from g.isLt), hLg]

theorem pay18_row (j : Fin 1) : k0_pay18 v155 v158 (ix2 r j) = ((1 / ∑ i, Real.exp (lg i - lg g) : ℝ) : EReal) := by
  pointwise [k0_pay18]
  simp only [pay16_row v155 v158 r hL, pay17_row v155 v158 r hL hLg hg]
  rw [sum_grp g hLg, ← EReal.coe_one, div_coe]
  exact (Finset.sum_pos (fun i _ => Real.exp_pos _) ⟨g, Finset.mem_univ _⟩).ne'

theorem pay19_row (j : Fin 128) : k0_pay19 v155 v158 (ix2 r j) = expRow L g j := by
  pointwise [k0_pay19]
  simp only [pay16_row v155 v158 r hL, pay17_row v155 v158 r hL hLg hg, pay15_row v155 v158 r hL]
  have hv : grpRow L (lane4 g) = lg g := by
    unfold grpRow; rw [if_pos (show (lane4 g).val < 4 from g.isLt), hLg]
  rw [fold_lane_win (win_grpRow hLg hg) (lg g) hv.symm _ fun j => rfl]
  have := lane_in_group g j
  simp only [lane4] at this ⊢
  rw [this, select_ofBool, ofBits_neg_inf]
  simp only [decide_eq_true_eq]
  rfl

variable (hLe : ∀ g e, L (lane g e) = le g e) (h1 : Win (fun e => (le g e : EReal)) e1)
include hLe h1

theorem pay20_row (j : Fin 1) : k0_pay20 v155 v158 (ix2 r j) = le g e1 := by
  pointwise [k0_pay20]
  simp only [pay19_row v155 v158 r hL hLg hg]
  rw [ofBits_neg_inf, fold_max_win (win_expRow hLe h1), expRow_lane hLe]

theorem pay21_row (j : Fin 1) : k0_pay21 v155 v158 (ix2 r j) = BitVec.ofNat 32 (lane g e1).val := by
  pointwise [k0_pay21]
  simp only [pay19_row v155 v158 r hL hLg hg, pay20_row v155 v158 r hL hLg hg hLe h1]
  exact fold_lane_win (win_expRow hLe h1) (le g e1) (expRow_lane hLe e1).symm _ fun j => rfl

theorem pay22_row (j : Fin 128) : k0_pay22 v155 v158 (ix2 r j) = BitVec.ofBool (decide (j = lane g e1)) := by
  pointwise [k0_pay22]
  rw [pay21_row v155 v158 r hL hLg hg hLe h1, lane_eq]

theorem sec_row (j : Fin 128) :
    Scalar.select (k0_pay22 v155 v158 (ix2 r j)) (k0_pay23 (F := Ideal) (ix2 r j)) (k0_pay19 v155 v158 (ix2 r j))
      = secRow L g (lane g e1) j := by
  rw [pay22_row v155 v158 r hL hLg hg hLe h1, pay19_row v155 v158 r hL hLg hg, select_ofBool]
  pointwise [k0_pay23]
  rw [ofBits_neg_inf]
  simp only [decide_eq_true_eq]
  rfl

variable (h2 : Win2 (fun e => (le g e : EReal)) e1 e2)
include h2

theorem pay24_row (j : Fin 128) :
    k0_pay24 (iota .tc S512x128 32 [1] iota_S512x128_d1_w32) (k0_pay18 v155 v158) (k0_pay19 v155 v158)
        (k0_pay20 v155 v158) (k0_pay21 v155 v158) (k0_pay22 v155 v158) k0_pay23 (ix2 r j)
      = routeRow g e1 e2 (1 / ∑ i, Real.exp (lg i - lg g)) (Real.exp (le g e2 - le g e1)) j := by
  pointwise [k0_pay24]
  simp only [sec_row v155 v158 r hL hLg hg hLe h1, pay18_row v155 v158 r hL hLg hg,
    pay20_row v155 v158 r hL hLg hg hLe h1, pay21_row v155 v158 r hL hLg hg hLe h1]
  rw [ofBits_neg_inf, fold_max_win (win_secRow hLe h2), secRow_lane hLe h2.1]
  rw [fold_lane_win (win_secRow hLe h2) (le g e2) (secRow_lane hLe h2.1).symm _ fun j => rfl]
  have hp : (1 + Real.exp (le g e2 - le g e1)) ≠ 0 := by positivity
  rw [← EReal.coe_sub, exp_coe, ← EReal.coe_one, ← EReal.coe_add, div_coe _ _ hp, div_coe _ _ hp, ← EReal.coe_mul,
    ← EReal.coe_mul]
  have hk : ∀ k : Fin 128, IntOp.cmpi .eq (BitVec.ofNat 32 j.val) (BitVec.ofNat 32 k.val) = BitVec.ofBool (decide (j.val = k.val)) := by
    intro k
    rw [lane_eq]
    simp only [Fin.ext_iff]
  have hk0 := hk 0
  have hk1 := hk 1
  have hk2 := hk 2
  have hk3 := hk 3
  simp only [show ((0 : Fin 128).val) = 0 from rfl, show ((1 : Fin 128).val) = 1 from rfl, show ((2 : Fin 128).val) = 2 from rfl,
    show ((3 : Fin 128).val) = 3 from rfl] at hk0 hk1 hk2 hk3
  rw [hk0, hk1, hk2, hk3]
  simp only [select_ofBool, decide_eq_true_eq]
  unfold routeRow
  have hs : ∀ e, FloatOps.sitofp (F := Ideal) FTy.f32 (IntOp.subi (BitVec.ofNat 32 (lane g e).val) 4#32)
      = (((8 * g.val + e.val : ℕ) : ℝ) : EReal) := by
    intro e
    show (((IntOp.subi (BitVec.ofNat 32 (lane g e).val) 4#32).toInt : ℝ) : EReal) = _
    rw [lane_sub]
    push_cast
    rfl
  rw [hs, hs]

end

end Cert.Route

end
-- ==== Proof.Real.lean ====
/- Values that are real numbers: the extended reals' operations that keep them so. -/
module

public import proofs.«01_k».proof.Proof.RouteRow

@[expose] public section

noncomputable section

namespace Cert.Route

open Idealize.ShloMosaic Idealize.SL.Sem

def IsReal (a : EReal) : Prop := ∃ r : ℝ, a = r

def IsNonneg (a : EReal) : Prop := ∃ r : ℝ, 0 ≤ r ∧ a = r

def IsPos (a : EReal) : Prop := ∃ r : ℝ, 0 < r ∧ a = r

theorem IsPos.nonneg {a : EReal} (h : IsPos a) : IsNonneg a := by
  obtain ⟨r, hr, rfl⟩ := h; exact ⟨r, hr.le, rfl⟩
theorem IsNonneg.real {a : EReal} (h : IsNonneg a) : IsReal a := by
  obtain ⟨r, _, rfl⟩ := h; exact ⟨r, rfl⟩
theorem IsPos.real {a : EReal} (h : IsPos a) : IsReal a := h.nonneg.real

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.neg {a : EReal} (ha : IsReal a) : IsReal (-a) := by
  obtain ⟨r, rfl⟩ := ha; exact ⟨-r, (EReal.coe_neg r).symm⟩
theorem IsReal.sub_self {a : EReal} (ha : IsReal a) : a - a = 0 := by
  obtain ⟨r, rfl⟩ := ha; rw [← EReal.coe_sub, _root_.sub_self]; rfl
theorem IsReal.mul_self {a : EReal} (ha : IsReal a) : IsNonneg (a * a) := by
  obtain ⟨r, rfl⟩ := ha; exact ⟨r * r, mul_self_nonneg r, (EReal.coe_mul r r).symm⟩
theorem IsReal.exp {a : EReal} (ha : IsReal a) : IsPos (Ideal.exp a) := by
  obtain ⟨r, rfl⟩ := ha; exact ⟨Real.exp r, Real.exp_pos r, rfl⟩
theorem IsReal.div {a b : EReal} (ha : IsReal a) (hb : IsPos b) : IsReal (Ideal.div a b) := by
  obtain ⟨r, rfl⟩ := ha; obtain ⟨s, hs, rfl⟩ := hb; exact ⟨r / s, div_coe r s hs.ne'⟩
theorem IsReal.sum {n : Nat} {f : Fin n → EReal} (h : ∀ i, IsReal (f i)) : IsReal (∑ i, f i) := by
  choose g hg using h
  exact ⟨∑ i, g i, by rw [← sum_coe]; exact Finset.sum_congr rfl fun i _ => hg i⟩

theorem IsNonneg.add_pos {a b : EReal} (ha : IsNonneg a) (hb : IsPos b) : IsPos (a + b) := by
  obtain ⟨r, hr, rfl⟩ := ha; obtain ⟨s, hs, rfl⟩ := hb
  exact ⟨r + s, by linarith, (EReal.coe_add r s).symm⟩
theorem IsNonneg.div {a b : EReal} (ha : IsNonneg a) (hb : IsPos b) : IsNonneg (Ideal.div a b) := by
  obtain ⟨r, hr, rfl⟩ := ha; obtain ⟨s, hs, rfl⟩ := hb
  exact ⟨r / s, div_nonneg hr hs.le, div_coe r s hs.ne'⟩
theorem IsNonneg.sum {n : Nat} {f : Fin n → EReal} (h : ∀ i, IsNonneg (f i)) : IsNonneg (∑ i, f i) := by
  choose g hg using h
  exact ⟨∑ i, g i, Finset.sum_nonneg fun i _ => (hg i).1, by
    rw [← sum_coe]; exact Finset.sum_congr rfl fun i _ => (hg i).2⟩
theorem IsPos.rsqrt {a : EReal} (ha : IsPos a) : IsPos (Ideal.rsqrt a) := by
  obtain ⟨r, hr, rfl⟩ := ha
  refine ⟨(Real.sqrt r)⁻¹, inv_pos.mpr (Real.sqrt_pos.mpr hr), ?_⟩
  show (if r < 0 then ⊥ else if r = 0 then ⊤ else (((Real.sqrt r)⁻¹ : ℝ) : EReal)) = _
  rw [if_neg (not_lt.mpr hr.le), if_neg hr.ne']

theorem isPos_one : IsPos 1 := ⟨1, one_pos, rfl⟩

theorem isPos_eps : IsPos (Ideal.ofBits .f32 897988541#32) := by
  refine ⟨_, ?_, by simp [Ideal.ofBits, Ideal.ieee]; rfl⟩
  positivity
theorem isPos_128 : IsPos (Ideal.ofBits .f32 1124073472#32) := by
  refine ⟨_, ?_, by simp [Ideal.ofBits, Ideal.ieee]; rfl⟩
  positivity
theorem isPos_1024 : IsPos (Ideal.ofBits .f32 1149239296#32) := by
  refine ⟨_, ?_, by simp [Ideal.ofBits, Ideal.ieee]; rfl⟩
  positivity

/-- The sigmoid of a real is real. -/
theorem IsReal.sigmoid {a : EReal} (ha : IsReal a) : IsReal (Ideal.div 1 (1 + Ideal.exp (-a))) :=
  isPos_one.real.div (isPos_one.nonneg.add_pos ha.neg.exp)

/-- The reciprocal root mean square of a row of reals is real. -/
theorem isReal_rms {n : Nat} {f : Fin n → EReal} (h : ∀ i, IsReal (f i)) {d e : EReal} (hd : IsPos d) (he : IsPos e) :
    IsReal (Ideal.rsqrt (Ideal.div (∑ i, f i * f i) d + e)) :=
  (((IsNonneg.sum fun i => (h i).mul_self).div hd).add_pos he).rsqrt.real

end Cert.Route

end
-- ==== Proof.RefRow.lean ====
/- The reference's routing row, read from its logits: softmax over the groups, the first of the sort, the gathered
   experts of that group, their softmax and the first two of its sort. -/
module

public import proofs.«01_k».proof.Proof.Gen.ReferenceIdeal.Read
public import proofs.«01_k».proof.Proof.RouteRow
public import Idealize.ShloMosaic.Lib.Pointwise

@[expose] public section

set_option maxRecDepth 16384

noncomputable section

namespace Cert.Route

open Idealize.ShloMosaic Idealize.SL.Sem Cert.ReferenceIdeal Cert.ReferenceIdeal.Gen Cert.ReferenceIdeal.Read

/-! ### The sort's first places -/

def before {n : Nat} (f : Fin n → EReal) (a b : Fin n) : Bool :=
  FloatOps.cmpfTotal (F := Ideal) (φ := .f32) .gt (f a) (f b) == 1#1

theorem before_iff {n : Nat} (f : Fin n → EReal) (a b : Fin n) : before f a b = true ↔ f b < f a := by
  unfold before
  show (BitVec.ofBool (decide (f a > f b)) == 1#1) = true ↔ _
  by_cases h : f b < f a <;> simp [h]

theorem exists_win {n : Nat} (f : Fin (n + 1) → EReal) : ∃ g, Win f g :=
  ⟨_, win_sortedFrom f (before f) (before_iff f)⟩

theorem along4 (r : Fin 16384) (a k : Fin 4) (h : 1 < Shape.rank S16384x4) :
    Shape.Idx.along (s := S16384x4) (ix2 r a) ⟨1, h⟩ k = ix2 r k := by
  funext d; match d with | ⟨0, _⟩ => rfl | ⟨1, _⟩ => rfl

theorem along8 (r : Fin 16384) (a k : Fin 8) (h : 1 < Shape.rank S16384x8) :
    Shape.Idx.along (s := S16384x8) (ix2 r a) ⟨1, h⟩ k = ix2 r k := by
  funext d; match d with | ⟨0, _⟩ => rfl | ⟨1, _⟩ => rfl

theorem before4 (x : FVec Ideal S16384x4 .f32) (r : Fin 16384) (a : Fin 4) (h : 1 < Shape.rank S16384x4) :
    (fun k k' : Fin 4 => FloatOps.cmpfTotal (F := Ideal) (φ := .f32) .gt (x (Shape.Idx.along (s := S16384x4) (ix2 r a) ⟨1, h⟩ k))
      (x (Shape.Idx.along (s := S16384x4) (ix2 r a) ⟨1, h⟩ k')) == 1#1) = before fun k => x (ix2 r k) := by
  funext k k'
  rw [along4, along4]
  rfl

theorem before8 (x : FVec Ideal S16384x8 .f32) (r : Fin 16384) (a : Fin 8) (h : 1 < Shape.rank S16384x8) :
    (fun k k' : Fin 8 => FloatOps.cmpfTotal (F := Ideal) (φ := .f32) .gt (x (Shape.Idx.along (s := S16384x8) (ix2 r a) ⟨1, h⟩ k))
      (x (Shape.Idx.along (s := S16384x8) (ix2 r a) ⟨1, h⟩ k')) == 1#1) = before fun k => x (ix2 r k) := by
  funext k k'
  rw [along8, along8]
  rfl

theorem top1_val (x : FVec Ideal S16384x4 .f32) (r : Fin 16384) :
    (Host.topK S16384x1 1 (FloatOps.cmpfTotal .gt) x sliceFits_S16384x4_S16384x1).1 (ix2 r 0)
      = x (ix2 r (sortedFrom (before fun k => x (ix2 r k)) 0)) := by
  unfold Host.topK
  pointwise
  unfold Host.sort2
  simp only [show 1 < Shape.rank S16384x4 from by decide, dite_true]
  refine (congrArg x (along4 r 0 _ (by decide))).trans ?_
  exact congrArg (fun b : Fin 4 → Fin 4 → Bool => x (ix2 r (sortedFrom b 0))) (before4 x r 0 (by decide))

theorem top1_idx (x : FVec Ideal S16384x4 .f32) (r : Fin 16384) :
    (Host.topK S16384x1 1 (FloatOps.cmpfTotal .gt) x sliceFits_S16384x4_S16384x1).2 (ix2 r 0)
      = BitVec.ofNat 32 (sortedFrom (before fun k => x (ix2 r k)) 0).val := by
  unfold Host.topK
  pointwise
  unfold Host.sort2
  simp only [show 1 < Shape.rank S16384x4 from by decide, dite_true]
  refine (congrArg (fun d : S16384x4.Idx => BitVec.ofNat 32 (d 1).val) (along4 r 0 _ (by decide))).trans ?_
  exact congrArg (fun b : Fin 4 → Fin 4 → Bool => BitVec.ofNat 32 (sortedFrom b 0).val) (before4 x r 0 (by decide))

theorem top2_val (x : FVec Ideal S16384x8 .f32) (r : Fin 16384) (i : Fin 2) :
    (Host.topK S16384x2 1 (FloatOps.cmpfTotal .gt) x sliceFits_S16384x8_S16384x2).1 (ix2 r i)
      = x (ix2 r (sortedFrom (before fun k => x (ix2 r k)) (i.castLE (by decide)))) := by
  unfold Host.topK
  pointwise
  unfold Host.sort2
  simp only [show 1 < Shape.rank S16384x8 from by decide, dite_true]
  refine (congrArg x (along8 r ⟨i.val, by omega⟩ _ (by decide))).trans ?_
  exact congrArg (fun b : Fin 8 → Fin 8 → Bool => x (ix2 r (sortedFrom b (i.castLE (by decide))))) (before8 x r ⟨i.val, by omega⟩ (by decide))

theorem top2_idx (x : FVec Ideal S16384x8 .f32) (r : Fin 16384) (i : Fin 2) :
    (Host.topK S16384x2 1 (FloatOps.cmpfTotal .gt) x sliceFits_S16384x8_S16384x2).2 (ix2 r i)
      = BitVec.ofNat 32 (sortedFrom (before fun k => x (ix2 r k)) (i.castLE (by decide))).val := by
  unfold Host.topK
  pointwise
  unfold Host.sort2
  simp only [show 1 < Shape.rank S16384x8 from by decide, dite_true]
  refine (congrArg (fun d : S16384x8.Idx => BitVec.ofNat 32 (d 1).val) (along8 r ⟨i.val, by omega⟩ _ (by decide))).trans ?_
  exact congrArg (fun b : Fin 8 → Fin 8 → Bool => BitVec.ofNat 32 (sortedFrom b (i.castLE (by decide))).val) (before8 x r ⟨i.val, by omega⟩ (by decide))

/-! ### Softmax of a row of reals -/

/-- The softmax of a row, its greatest entry being entry `g`. -/
def soft {n : Nat} (l : Fin n → ℝ) (g i : Fin n) : ℝ := Real.exp (l i - l g) / ∑ k, Real.exp (l k - l g)

theorem soft_sum_pos {n : Nat} (l : Fin n → ℝ) (g : Fin n) : 0 < ∑ k, Real.exp (l k - l g) :=
  Finset.sum_pos (fun i _ => Real.exp_pos _) ⟨g, Finset.mem_univ _⟩

theorem soft_lt {n : Nat} (l : Fin n → ℝ) (g a b : Fin n) :
    (soft l g a : EReal) < soft l g b ↔ (l a : EReal) < l b := by
  unfold soft
  rw [EReal.coe_lt_coe_iff, EReal.coe_lt_coe_iff, div_lt_div_iff_of_pos_right (soft_sum_pos l g), Real.exp_lt_exp]
  constructor <;> intro h <;> linarith

theorem soft_read {n : Nat} (l : Fin n → ℝ) (g : Fin n) (hg : Win (fun i => (l i : EReal)) g) (j : Fin n) :
    Ideal.div (Ideal.exp ((l j : EReal) - max ⊥ (Finset.univ.fold max ⊥ fun i => (l i : EReal))))
        (∑ i, Ideal.exp ((l i : EReal) - max ⊥ (Finset.univ.fold max ⊥ fun i => (l i : EReal))))
      = (soft l g j : EReal) := by
  rw [fold_max_win hg, max_eq_right bot_le]
  simp only [← EReal.coe_sub, exp_coe]
  rw [sum_coe, div_coe _ _ (soft_sum_pos l g).ne']
  rfl

theorem Win.val_eq {n : Nat} {l : Fin n → ℝ} {g g' : Fin n} (h : Win (fun i => (l i : EReal)) g)
    (h' : Win (fun i => (l i : EReal)) g') : l g = l g' :=
  le_antisymm (EReal.coe_le_coe_iff.mp (h'.le g)) (EReal.coe_le_coe_iff.mp (h.le g'))

theorem soft_top {n : Nat} {l : Fin n → ℝ} {g g' : Fin n} (h : l g = l g') (j : Fin n) : soft l g j = soft l g' j := by
  unfold soft
  rw [h]

/-! ### The gather along the groups -/

theorem gather_group (x : FVec Ideal S16384x4x8 .f32) (idx : IVec S16384x1x1 32) (r : Fin 16384) (j : Fin 8) (g : Fin 4)
    (hi : idx (ix3 r 0 0) = BitVec.ofNat 32 g.val) :
    Host.gather gather_S16384x4x8_S16384x1x1_S16384x1x8_2_1_0_0_1_2_118 x idx (ix3 r 0 j) = x (ix3 r g j) := by
  unfold Host.gather
  congr 1
  have hsi : ∀ c, gather_S16384x4x8_S16384x1x1_S16384x1x8_2_1_0_0_1_2_118.siIdx (ix3 r 0 j) c = ix3 r 0 0 := by
    intro c
    funext b; refine Fin.ext ?_
    match b with
    | ⟨0, _⟩ => rfl
    | ⟨1, _⟩ => rfl
    | ⟨2, _⟩ => have := c.isLt; change c.val = 0; change c.val < 1 at this; omega
  funext a; refine Fin.ext ?_
  have hg : ∀ g : Fin 4, min (BitVec.ofNat 32 g.val).toInt.toNat 3 = g.val := by decide
  match a with
  | ⟨0, _⟩ =>
    show GatherDims.start _ _ idx 0 + GatherDims.batchCoord _ _ 0 + GatherDims.offCoord _ _ 0 = r.val
    rw [GatherDims.start_batching _ _ _ _ (by decide), GatherDims.offCoord_eq_zero _ _ _ (by decide)]
    simp only [Nat.zero_add, Nat.add_zero]
    rfl
  | ⟨1, _⟩ =>
    show GatherDims.start _ _ idx 1 + GatherDims.batchCoord _ _ 1 + GatherDims.offCoord _ _ 1 = g.val
    rw [GatherDims.batchCoord_eq_zero _ _ _ (by decide), GatherDims.offCoord_eq_zero _ _ _ (by decide)]
    simp only [Nat.add_zero]
    unfold GatherDims.start
    rw [dif_pos (by decide), hsi, hi]
    exact hg g
  | ⟨2, _⟩ =>
    show GatherDims.start _ _ idx 2 + GatherDims.batchCoord _ _ 2 + GatherDims.offCoord _ _ 2 = j.val
    rw [GatherDims.batchCoord_eq_zero _ _ _ (by decide)]
    have : GatherDims.start gather_S16384x4x8_S16384x1x1_S16384x1x8_2_1_0_0_1_2_118 (ix3 r 0 j) idx 2 = 0 := by
      unfold GatherDims.start
      rw [dif_neg (by decide)]
    rw [this]
    simp only [Nat.zero_add, Nat.add_zero]
    rfl

/-! ### The reference's row -/

theorem idx_int : ∀ g : Fin 4, ∀ e : Fin 8,
    (IntOp.addi (IntOp.muli (BitVec.ofNat 32 g.val) 8#32) (BitVec.ofNat 32 e.val)).toInt = ((8 * g.val + e.val : ℕ) : Int) := by
  decide +kernel

theorem idx_wrap : ∀ g : Fin 4,
    Scalar.select (IntOp.cmpi .slt (BitVec.ofNat 32 g.val) 0#32) (IntOp.addi (BitVec.ofNat 32 g.val) 4#32) (BitVec.ofNat 32 g.val)
      = BitVec.ofNat 32 g.val := by decide

theorem idx_ok : ∀ g : Fin 4,
    IntOp.andi (IntOp.cmpi .sge (BitVec.ofNat 32 g.val) 0#32) (IntOp.cmpi .sle (BitVec.ofNat 32 g.val) 3#32) = 1#1 := by decide

section
variable (x0 x1 x2 x3 x4 x5 x6 x7 x8 x9 x10) (r : Fin 16384) {lg : Fin 4 → ℝ} {le : Fin 4 → Fin 8 → ℝ}

theorem v57_row (hlg : ∀ i, val_main_v46 (F := Ideal) x0 x1 x2 x3 x4 x5 x6 x7 x8 (ix2 r i) = lg i) {g : Fin 4}
    (hg : Win (fun i => (lg i : EReal)) g) (j : Fin 4) :
    val_main_v57 (F := Ideal) x0 x1 x2 x3 x4 x5 x6 x7 x8 (ix2 r j) = soft lg g j := by
  pointwise [val_main_v57, val_main_v56, val_main_v55, val_main_v54, val_main_v53, val_main_v52, val_main_v51, val_main_v50, val_main_v49, val_main_v48, val_main_v47, val_main_cst_7, val_main_cst_8, val_main_cst_9]
  simp only [hlg, ofBits_neg_inf]
  exact soft_read lg g hg j

theorem call0_v4_row {g : Fin 4}
    (hi : val_main_indices (F := Ideal) x0 x1 x2 x3 x4 x5 x6 x7 x8 (ix2 r 0) = BitVec.ofNat 32 g.val) :
    val_main_call0_v4 (F := Ideal) x0 x1 x2 x3 x4 x5 x6 x7 x8 (ix3 r 0 0) = BitVec.ofNat 32 g.val := by
  pointwise [val_main_call0_v4, val_main_call0_v3, val_main_call0_v2, val_main_call0_c_0, val_main_call0_v1, val_main_call0_v0, val_main_call0_c, val_main_v64]
  rw [hi]
  exact idx_wrap g

theorem v65_row {g : Fin 4}
    (hi : val_main_indices (F := Ideal) x0 x1 x2 x3 x4 x5 x6 x7 x8 (ix2 r 0) = BitVec.ofNat 32 g.val) (j : Fin 8) :
    val_main_v65 (F := Ideal) x0 x1 x2 x3 x4 x5 x6 x7 x8 x9 x10 (ix3 r 0 j)
      = val_main_v63 (F := Ideal) x0 x1 x2 x3 x4 x5 x6 x9 x10 (ix3 r g j) := by
  have h4 := call0_v4_row x0 x1 x2 x3 x4 x5 x6 x7 x8 r hi
  have h12 : val_main_call0_v12 (F := Ideal) x0 x1 x2 x3 x4 x5 x6 x7 x8 x9 x10 (ix3 r 0 j)
      = val_main_v63 (F := Ideal) x0 x1 x2 x3 x4 x5 x6 x9 x10 (ix3 r g j) := gather_group _ _ r j g h4
  have h11 : val_main_call0_v11 (F := Ideal) x0 x1 x2 x3 x4 x5 x6 x7 x8 (ix2 r 0) = 1#1 := by
    pointwise [val_main_call0_v11, val_main_call0_c_3, val_main_call0_v10, val_main_call0_v9, val_main_call0_v8, val_main_call0_v7, val_main_call0_v6, val_main_call0_v5, val_main_call0_c_2, val_main_call0_c_1]
    have hf : ∀ f : Fin 1 → BitVec 1, f 0 = 1#1 → Finset.univ.fold IntOp.andi 1#1 f = 1#1 := by
      intro f hf
      rw [show (Finset.univ : Finset (Fin 1)) = {0} from rfl, Finset.fold_singleton, hf]
      rfl
    refine hf _ ?_
    beta_reduce
    rw [h4]
    exact idx_ok g
  pointwise [val_main_v65, val_main_call0_v13]
  rw [h12, h11]
  rfl

theorem v66_row {g : Fin 4}
    (hi : val_main_indices (F := Ideal) x0 x1 x2 x3 x4 x5 x6 x7 x8 (ix2 r 0) = BitVec.ofNat 32 g.val) (j : Fin 8) :
    val_main_v66 (F := Ideal) x0 x1 x2 x3 x4 x5 x6 x7 x8 x9 x10 (ix2 r j)
      = val_main_v63 (F := Ideal) x0 x1 x2 x3 x4 x5 x6 x9 x10 (ix3 r g j) := by
  pointwise [val_main_v66]
  exact v65_row x0 x1 x2 x3 x4 x5 x6 x7 x8 x9 x10 r hi j

set_option maxRecDepth 100000 in
theorem v77_row {l : Fin 8 → ℝ}
    (hl : ∀ i, val_main_v66 (F := Ideal) x0 x1 x2 x3 x4 x5 x6 x7 x8 x9 x10 (ix2 r i) = l i) {e : Fin 8}
    (he : Win (fun i => (l i : EReal)) e) (j : Fin 8) :
    val_main_v77 (F := Ideal) x0 x1 x2 x3 x4 x5 x6 x7 x8 x9 x10 (ix2 r j) = soft l e j := by
  pointwise [val_main_v77, val_main_v76, val_main_v75, val_main_v74, val_main_v73, val_main_v72, val_main_v71, val_main_v70, val_main_v69, val_main_v68, val_main_v67, val_main_cst_10, val_main_cst_11, val_main_cst_12]
  generalize val_main_v66 (F := Ideal) x0 x1 x2 x3 x4 x5 x6 x7 x8 x9 x10 = v at hl ⊢
  simp only [hl, ofBits_neg_inf]
  exact soft_read l e he j

end

end Cert.Route

end
-- ==== Proof.RefRoute.lean ====
/- The reference's routing row of a token is the row of its winning group and that group's two winning experts. -/
module

public import proofs.«01_k».proof.Proof.RefRow

@[expose] public section

set_option maxRecDepth 16384

noncomputable section

namespace Cert.Route

open Idealize.ShloMosaic Idealize.SL.Sem Cert.ReferenceIdeal Cert.ReferenceIdeal.Gen Cert.ReferenceIdeal.Read

section
variable (x0 x1 x2 x3 x4 x5 x6 x7 x8 x9 x10) (r : Fin 16384) {lg : Fin 4 → ℝ} {le : Fin 4 → Fin 8 → ℝ}

theorem v88_read (i : Fin 2) :
    val_main_v88 (F := Ideal) x0 x1 x2 x3 x4 x5 x6 x7 x8 x9 x10 (ix2 r i)
      = FloatOps.sitofp (F := Ideal) FTy.f32 (IntOp.addi (IntOp.muli (val_main_indices (F := Ideal) x0 x1 x2 x3 x4 x5 x6 x7 x8 (ix2 r 0)) 8#32)
          (val_main_indices_14 (F := Ideal) x0 x1 x2 x3 x4 x5 x6 x7 x8 x9 x10 (ix2 r i))) := by
  pointwise [val_main_v88, val_main_v87, val_main_v86, val_main_v85, val_main_v84, val_main_c]

theorem v83_read (i : Fin 2) :
    val_main_v83 (F := Ideal) x0 x1 x2 x3 x4 x5 x6 x7 x8 x9 x10 (ix2 r i)
      = Ideal.div (val_main_values_13 (F := Ideal) x0 x1 x2 x3 x4 x5 x6 x7 x8 x9 x10 (ix2 r i))
          (∑ x, val_main_values_13 (F := Ideal) x0 x1 x2 x3 x4 x5 x6 x7 x8 x9 x10 (ix2 r x))
        * val_main_values (F := Ideal) x0 x1 x2 x3 x4 x5 x6 x7 x8 (ix2 r 0) := by
  pointwise [val_main_v83, val_main_v82, val_main_v81, val_main_v80, val_main_v79, val_main_v78, val_main_cst_15]

theorem v90_read {g : Fin 4} {e1 e2 : Fin 8}
    (hval : val_main_values (F := Ideal) x0 x1 x2 x3 x4 x5 x6 x7 x8 (ix2 r 0) = soft lg g g)
    (hidx : val_main_indices (F := Ideal) x0 x1 x2 x3 x4 x5 x6 x7 x8 (ix2 r 0) = BitVec.ofNat 32 g.val)
    (hv : ∀ i : Fin 2, val_main_values_13 (F := Ideal) x0 x1 x2 x3 x4 x5 x6 x7 x8 x9 x10 (ix2 r i)
      = soft (le g) e1 (if i.val = 0 then e1 else e2))
    (hi : ∀ i : Fin 2, val_main_indices_14 (F := Ideal) x0 x1 x2 x3 x4 x5 x6 x7 x8 x9 x10 (ix2 r i)
      = BitVec.ofNat 32 (if i.val = 0 then e1 else e2).val) (j : Fin 128) :
    val_main_v90 (F := Ideal) x0 x1 x2 x3 x4 x5 x6 x7 x8 x9 x10 (ix2 r j)
      = routeRow g e1 e2 (1 / ∑ i, Real.exp (lg i - lg g)) (Real.exp (le g e2 - le g e1)) j := by
  pointwise [val_main_v90, val_main_v89, val_main_cst_16]
  simp only [v88_read, v83_read]
  have hs : ∀ e : Fin 8, FloatOps.sitofp (F := Ideal) FTy.f32 (IntOp.addi (IntOp.muli (BitVec.ofNat 32 g.val) 8#32) (BitVec.ofNat 32 e.val))
      = (((8 * g.val + e.val : ℕ) : ℝ) : EReal) := by
    intro e
    show (((IntOp.addi (IntOp.muli (BitVec.ofNat 32 g.val) 8#32) (BitVec.ofNat 32 e.val)).toInt : ℝ) : EReal) = _
    rw [idx_int]
    push_cast
    rfl
  have hd0 : (∑ k, Real.exp (le g k - le g e1)) ≠ 0 := (soft_sum_pos (le g) e1).ne'
  have hx : (1 + Real.exp (le g e2 - le g e1)) ≠ 0 := by positivity
  have h00 : soft (le g) e1 e1 = 1 / ∑ k, Real.exp (le g k - le g e1) := by unfold soft; rw [sub_self, Real.exp_zero]
  have hgg : soft lg g g = 1 / ∑ k, Real.exp (lg k - lg g) := by unfold soft; rw [sub_self, Real.exp_zero]
  have hsum : soft (le g) e1 e1 + soft (le g) e1 e2
      = (1 + Real.exp (le g e2 - le g e1)) / ∑ k, Real.exp (le g k - le g e1) := by
    rw [h00]; unfold soft; rw [← add_div]
  have hne : soft (le g) e1 e1 + soft (le g) e1 e2 ≠ 0 := by rw [hsum]; exact div_ne_zero hx hd0
  simp only [hval, hidx, hv, hi, Fin.sum_univ_two, Fin.val_zero, Fin.val_one, if_true, one_ne_zero, if_false, ← EReal.coe_add, hs]
  rw [hgg]
  simp only [div_coe _ _ hne, ← EReal.coe_mul]
  rw [hsum]
  unfold routeRow
  have ha : soft (le g) e1 e1 / ((1 + Real.exp (le g e2 - le g e1)) / ∑ k, Real.exp (le g k - le g e1)) * (1 / ∑ i, Real.exp (lg i - lg g))
      = 1 / (1 + Real.exp (le g e2 - le g e1)) * (1 / ∑ i, Real.exp (lg i - lg g)) := by
    rw [h00]
    field_simp
  have hb : soft (le g) e1 e2 / ((1 + Real.exp (le g e2 - le g e1)) / ∑ k, Real.exp (le g k - le g e1)) * (1 / ∑ i, Real.exp (lg i - lg g))
      = Real.exp (le g e2 - le g e1) / (1 + Real.exp (le g e2 - le g e1)) * (1 / ∑ i, Real.exp (lg i - lg g)) := by
    unfold soft
    field_simp
  by_cases h2 : j.val < 2
  · rw [dif_pos h2]
    rcases (show j.val = 0 ∨ j.val = 1 by omega) with h | h
    · rw [if_pos h, if_pos h]
    · rw [if_neg (show ¬ j.val = 0 by omega), if_neg (show ¬ j.val = 0 by omega), if_pos h]
  · rw [dif_neg h2]
    by_cases h4 : j.val - 2 < 2
    · rw [dif_pos h4]
      rcases (show j.val = 2 ∨ j.val = 3 by omega) with h | h
      · rw [if_pos (show j.val - 2 = 0 by omega), if_neg (show ¬ j.val = 0 by omega), if_neg (show ¬ j.val = 1 by omega), if_pos h, ha]
      · rw [if_neg (show ¬ j.val - 2 = 0 by omega), if_neg (show ¬ j.val = 0 by omega), if_neg (show ¬ j.val = 1 by omega),
          if_neg (show ¬ j.val = 2 by omega), if_pos h, hb]
    · rw [dif_neg h4, if_neg (show ¬ j.val = 0 by omega), if_neg (show ¬ j.val = 1 by omega),
          if_neg (show ¬ j.val = 2 by omega), if_neg (show ¬ j.val = 3 by omega)]

/-- The reference's row of a token is the row of the winning group and its two winning experts. -/
theorem v90_row (hlg : ∀ i, val_main_v46 (F := Ideal) x0 x1 x2 x3 x4 x5 x6 x7 x8 (ix2 r i) = lg i)
    (hle : ∀ g e, val_main_v63 (F := Ideal) x0 x1 x2 x3 x4 x5 x6 x9 x10 (ix3 r g e) = le g e) :
    ∃ (g : Fin 4) (e1 e2 : Fin 8), Win (fun i => (lg i : EReal)) g ∧ Win (fun e => (le g e : EReal)) e1
      ∧ Win2 (fun e => (le g e : EReal)) e1 e2
      ∧ ∀ j, val_main_v90 (F := Ideal) x0 x1 x2 x3 x4 x5 x6 x7 x8 x9 x10 (ix2 r j)
        = routeRow g e1 e2 (1 / ∑ i, Real.exp (lg i - lg g)) (Real.exp (le g e2 - le g e1)) j := by
  obtain ⟨g0, hg0⟩ := exists_win fun i => (lg i : EReal)
  have h57 := v57_row x0 x1 x2 x3 x4 x5 x6 x7 x8 r hlg hg0
  have hval : val_main_values (F := Ideal) x0 x1 x2 x3 x4 x5 x6 x7 x8 (ix2 r 0) = _ := top1_val _ r
  have hidx : val_main_indices (F := Ideal) x0 x1 x2 x3 x4 x5 x6 x7 x8 (ix2 r 0) = _ := top1_idx _ r
  have hw := win_sortedFrom _ _ (before_iff fun k => val_main_v57 (F := Ideal) x0 x1 x2 x3 x4 x5 x6 x7 x8 (ix2 r k))
  generalize sortedFrom (before fun k => val_main_v57 (F := Ideal) x0 x1 x2 x3 x4 x5 x6 x7 x8 (ix2 r k)) 0 = g at hval hidx hw
  have hg : Win (fun i => (lg i : EReal)) g := hw.of_iff fun a b => by rw [h57, h57]; exact soft_lt lg g0 a b
  rw [h57, soft_top (hg0.val_eq hg)] at hval
  have h66 : ∀ i, val_main_v66 (F := Ideal) x0 x1 x2 x3 x4 x5 x6 x7 x8 x9 x10 (ix2 r i) = le g i := fun i => by
    rw [v66_row x0 x1 x2 x3 x4 x5 x6 x7 x8 x9 x10 r hidx, hle]
  obtain ⟨e0, he0⟩ := exists_win fun e => (le g e : EReal)
  have h77 := v77_row x0 x1 x2 x3 x4 x5 x6 x7 x8 x9 x10 r h66 he0
  have hval2 : ∀ i, val_main_values_13 (F := Ideal) x0 x1 x2 x3 x4 x5 x6 x7 x8 x9 x10 (ix2 r i) = _ := top2_val _ r
  have hidx2 : ∀ i, val_main_indices_14 (F := Ideal) x0 x1 x2 x3 x4 x5 x6 x7 x8 x9 x10 (ix2 r i) = _ := top2_idx _ r
  have hv0 := hval2 0
  have hv1 := hval2 1
  have hi0 := hidx2 0
  have hi1 := hidx2 1
  have hw1 := win_sortedFrom _ _ (before_iff fun k => val_main_v77 (F := Ideal) x0 x1 x2 x3 x4 x5 x6 x7 x8 x9 x10 (ix2 r k))
  have hw2 := win2_sortedFrom _ _ (before_iff fun k => val_main_v77 (F := Ideal) x0 x1 x2 x3 x4 x5 x6 x7 x8 x9 x10 (ix2 r k))
  change _ = val_main_v77 (F := Ideal) x0 x1 x2 x3 x4 x5 x6 x7 x8 x9 x10 (ix2 r (sortedFrom (before fun k => val_main_v77 (F := Ideal) x0 x1 x2 x3 x4 x5 x6 x7 x8 x9 x10 (ix2 r k)) 0)) at hv0
  change _ = val_main_v77 (F := Ideal) x0 x1 x2 x3 x4 x5 x6 x7 x8 x9 x10 (ix2 r (sortedFrom (before fun k => val_main_v77 (F := Ideal) x0 x1 x2 x3 x4 x5 x6 x7 x8 x9 x10 (ix2 r k)) 1)) at hv1
  change _ = BitVec.ofNat 32 (sortedFrom (before fun k => val_main_v77 (F := Ideal) x0 x1 x2 x3 x4 x5 x6 x7 x8 x9 x10 (ix2 r k)) 0).val at hi0
  change _ = BitVec.ofNat 32 (sortedFrom (before fun k => val_main_v77 (F := Ideal) x0 x1 x2 x3 x4 x5 x6 x7 x8 x9 x10 (ix2 r k)) 1).val at hi1
  generalize sortedFrom (before fun k => val_main_v77 (F := Ideal) x0 x1 x2 x3 x4 x5 x6 x7 x8 x9 x10 (ix2 r k)) 0 = e1 at hv0 hi0 hw1 hw2
  generalize sortedFrom (before fun k => val_main_v77 (F := Ideal) x0 x1 x2 x3 x4 x5 x6 x7 x8 x9 x10 (ix2 r k)) 1 = e2 at hv1 hi1 hw2
  have he1 : Win (fun e => (le g e : EReal)) e1 := hw1.of_iff fun a b => by rw [h77, h77]; exact soft_lt (le g) e0 a b
  have he2 : Win2 (fun e => (le g e : EReal)) e1 e2 := hw2.of_iff fun a b => by rw [h77, h77]; exact soft_lt (le g) e0 a b
  rw [h77, soft_top (he0.val_eq he1)] at hv0 hv1
  have hv : ∀ i : Fin 2, val_main_values_13 (F := Ideal) x0 x1 x2 x3 x4 x5 x6 x7 x8 x9 x10 (ix2 r i)
      = soft (le g) e1 (if i.val = 0 then e1 else e2) := by
    intro i; fin_cases i
    · exact hv0
    · exact hv1
  have hi : ∀ i : Fin 2, val_main_indices_14 (F := Ideal) x0 x1 x2 x3 x4 x5 x6 x7 x8 x9 x10 (ix2 r i)
      = BitVec.ofNat 32 (if i.val = 0 then e1 else e2).val := by
    intro i; fin_cases i
    · exact hi0
    · exact hi1
  clear hval2 hidx2 hw hw1 hw2 h77 h57 h66 hv0 hv1 hi0 hi1
  exact ⟨g, e1, e2, hg, he1, he2, v90_read x0 x1 x2 x3 x4 x5 x6 x7 x8 x9 x10 r hval hidx hv hi⟩

end

end Cert.Route

end
-- ==== Proof.KerRow.lean ====
/- One token's rows of the kernel's block against the reference's rows, from what the block's inputs hold. -/
module

public import proofs.«01_k».proof.Proof.Gen.ReferenceIdeal.Read
public import proofs.«01_k».proof.Proof.Gen.KernelIdeal.Frame
public import proofs.«01_k».proof.Proof.Real
public import proofs.«01_k».proof.Proof.RefRoute

@[expose] public section

set_option maxRecDepth 16384

noncomputable section

namespace Cert.Route

open Idealize.ShloMosaic Idealize.SL.Sem Cert.KernelIdeal Cert.KernelIdeal.Gen

abbrev hi (R : Fin 16384) : Fin 2 := ⟨R.val / 8192, by omega⟩
abbrev lo (R : Fin 16384) : Fin 8192 := ⟨R.val % 8192, by omega⟩

/-- Row `r` of the blocks `b0` … `b7` holds token `R` of the arguments `a0` … `a6`. -/
structure Holds (b0 : Vec Ideal S512x1024 .f32) (b1 : Vec Ideal S512x512 .bf16) (b2 b3 : Vec Ideal S512x512 .f32)
    (b4 : Vec Ideal S1x128 .f32) (b5 b6 : Vec Ideal S512x1024 .bf16) (b7 : Vec Ideal S1x1024 .f32)
    (r : Fin 512) (R : Fin 16384)
    (a0 : FVec Ideal S2x8192x1024 .f32) (a1 : FVec Ideal S2x8192x512 .bf16) (a2 a3 : FVec Ideal S2x8192x512 .f32)
    (a4 : FVec Ideal S128 .f32) (a5 : FVec Ideal S1024x1024 .f32) (a6 : FVec Ideal S1024 .f32) : Prop where
  h0 : ∀ c : Fin 1024, b0 (ix2 r c) = a0 (ix3 (hi R) (lo R) c)
  h1 : ∀ c : Fin 512, b1 (ix2 r c) = a1 (ix3 (hi R) (lo R) c)
  h2 : ∀ c : Fin 512, b2 (ix2 r c) = a2 (ix3 (hi R) (lo R) c)
  h3 : ∀ c : Fin 512, b3 (ix2 r c) = a3 (ix3 (hi R) (lo R) c)
  h4 : ∀ c : Fin 128, b4 (ix2 0 c) = a4 (ix1 c)
  h5 : ∀ (k : Fin 512) (c : Fin 1024), b5 (ix2 k c) = a5 (ix2 ⟨k.val, by omega⟩ c)
  h6 : ∀ (k : Fin 512) (c : Fin 1024), b6 (ix2 k c) = a5 (ix2 ⟨512 + k.val, by omega⟩ c)
  h7 : ∀ c : Fin 1024, b7 (ix2 0 c) = a6 (ix1 c)

section
variable {b0 : Vec Ideal S512x1024 .f32} {b1 : Vec Ideal S512x512 .bf16} {b2 b3 : Vec Ideal S512x512 .f32}
    {b4 : Vec Ideal S1x128 .f32} {b5 b6 : Vec Ideal S512x1024 .bf16} {b7 : Vec Ideal S1x1024 .f32}
    {b8 b9 : Vec Ideal S1024x128 .bf16} {b10 : Vec Ideal S1x128 .f32}
    {r : Fin 512} {R : Fin 16384}
    {a0 : FVec Ideal S2x8192x1024 .f32} {a1 : FVec Ideal S2x8192x512 .bf16} {a2 a3 : FVec Ideal S2x8192x512 .f32}
    {a4 : FVec Ideal S128 .f32} {a5 : FVec Ideal S1024x1024 .f32} {a6 : FVec Ideal S1024 .f32}

section
open Cert.ReferenceIdeal Cert.ReferenceIdeal.Gen Cert.ReferenceIdeal.Read

theorem ref_gated (a2 a3 a4) (R : Fin 16384) (h : Fin 4) (k : Fin 128) :
    val_main_v22 (F := Ideal) a2 a3 a4 (ix3 R h k)
      = a2 (ix3 (hi R) (lo R) ⟨h.val * 128 + k.val, by omega⟩)
          * Ideal.rsqrt (Ideal.div (∑ x : Fin 128, a2 (ix3 (hi R) (lo R) ⟨h.val * 128 + x.val, by omega⟩)
              * a2 (ix3 (hi R) (lo R) ⟨h.val * 128 + x.val, by omega⟩)) (Ideal.ofBits FTy.f32 1124073472#32)
            + Ideal.ofBits FTy.f32 897988541#32) * a4 (ix1 k)
        * (a3 (ix3 (hi R) (lo R) ⟨h.val * 128 + k.val, by omega⟩)
          * Ideal.div 1 (1 + Ideal.exp (-a3 (ix3 (hi R) (lo R) ⟨h.val * 128 + k.val, by omega⟩)))) := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

theorem ref_h1 (a0 a1 a2 a3 a4 a5) (R : Fin 16384) (c : Fin 1024) :
    val_main_v29 (F := Ideal) a0 a1 a2 a3 a4 a5 (ix2 R c)
      = a0 (ix3 (hi R) (lo R) c)
        + (∑ x : Fin 512, a1 (ix3 (hi R) (lo R) x) * a5 (ix2 ⟨x.val, by omega⟩ c)
          + ∑ x : Fin 512, val_main_v22 (F := Ideal) a2 a3 a4 (ix3 R ⟨x.val / 128, by omega⟩ ⟨x.val % 128, by omega⟩)
            * a5 (ix2 ⟨512 + x.val, by omega⟩ c)) := by
  pointwise [val_main_v29, val_main_v28, val_main_v27, val_main_v26, val_main_v25, val_main_v24, val_main_v23]

theorem ref_xn (a0 a1 a2 a3 a4 a5 a6) (R : Fin 16384) (c : Fin 1024) :
    val_main_v42 (F := Ideal) a0 a1 a2 a3 a4 a5 a6 (ix2 R c)
      = val_main_v29 (F := Ideal) a0 a1 a2 a3 a4 a5 (ix2 R c)
          * Ideal.rsqrt (Ideal.div (∑ x, val_main_v29 (F := Ideal) a0 a1 a2 a3 a4 a5 (ix2 R x)
              * val_main_v29 (F := Ideal) a0 a1 a2 a3 a4 a5 (ix2 R x)) (Ideal.ofBits FTy.f32 1149239296#32)
            + Ideal.ofBits FTy.f32 897988541#32)
        * a6 (ix1 c) := by
  pointwise [val_main_v42, val_main_v41, val_main_v40, val_main_v39, val_main_v38, val_main_v37, val_main_v36, val_main_v35, val_main_v34, val_main_v33, val_main_v32, val_main_v31, val_main_v30, val_main_cst_4, val_main_cst_5, val_main_cst_6]

theorem ref_grp (a0 a1 a2 a3 a4 a5 a6 a7 a8) (R : Fin 16384) (i : Fin 4) :
    val_main_v46 (F := Ideal) a0 a1 a2 a3 a4 a5 a6 a7 a8 (ix2 R i)
      = ∑ x, val_main_v42 (F := Ideal) a0 a1 a2 a3 a4 a5 a6 (ix2 R x) * a7 (ix2 x i) + a8 (ix1 i) := by
  pointwise [val_main_v46, val_main_v45, val_main_v44, val_main_v43]

theorem ref_exp (a0 a1 a2 a3 a4 a5 a6 a9 a10) (R : Fin 16384) (g : Fin 4) (e : Fin 8) :
    val_main_v63 (F := Ideal) a0 a1 a2 a3 a4 a5 a6 a9 a10 (ix3 R g e)
      = ∑ x, val_main_v42 (F := Ideal) a0 a1 a2 a3 a4 a5 a6 (ix2 R x) * a9 (ix3 x g e) + a10 (ix2 g e) := by
  pointwise [val_main_v63, val_main_v62, val_main_v61, val_main_v60, val_main_v59, val_main_v58]

end

theorem heads_row (H : Holds b0 b1 b2 b3 b4 b5 b6 b7 r R a0 a1 a2 a3 a4 a5 a6) (c : Fin 512) :
    k0_pay25 (F := Ideal) b0 b1 b2 b3 b4 b5 b6 b7 b8 b9 b10 (ix2 r c)
      = Cert.ReferenceIdeal.Read.val_main_v22 (F := Ideal) a2 a3 a4 (ix3 R ⟨c.val / 128, by omega⟩ ⟨c.val % 128, by omega⟩) := by
  rw [ref_gated]
  pointwise [k0_pay25, k0_pay7, k0_pay1, k0_pay5, k0_pay6, k0_pay2, k0_pay3, k0_pay4]
  simp only [H.h2, H.h3, H.h4, zero_sub]
  have hc := c.isLt
  split
  · have e : c.val / 128 = 0 := by omega
    have e' : c.val % 128 = c.val := by omega
    simp only [e, e', Nat.zero_mul, Nat.zero_add]
  · split
    · have e : c.val / 128 = 1 := by omega
      have e' : c.val % 128 = c.val - 128 := by omega
      simp only [e, e', Nat.one_mul]
    · split
      · have e : c.val / 128 = 2 := by omega
        have e' : c.val % 128 = c.val - 128 - 128 := by omega
        simp only [e, e', Nat.reduceMul]
      · have e : c.val / 128 = 3 := by omega
        have e' : c.val % 128 = c.val - 128 - 128 - 128 := by omega
        simp only [e, e', Nat.reduceMul]

theorem h1_row (H : Holds b0 b1 b2 b3 b4 b5 b6 b7 r R a0 a1 a2 a3 a4 a5 a6) (c : Fin 1024) :
    k0_pay11 (F := Ideal) (k0_pay25 b0 b1 b2 b3 b4 b5 b6 b7 b8 b9 b10) (k0_pay26 b0 b1 b2 b3 b4 b5 b6 b7 b8 b9 b10)
        (k0_pay27 b0 b1 b2 b3 b4 b5 b6 b7 b8 b9 b10) (k0_pay28 b0 b1 b2 b3 b4 b5 b6 b7 b8 b9 b10) (ix2 r c)
      = Cert.ReferenceIdeal.Read.val_main_v29 (F := Ideal) a0 a1 a2 a3 a4 a5 (ix2 R c) := by
  rw [ref_h1]
  pointwise [k0_pay11, k0_pay26, k0_pay27, k0_pay28, k0_pay8, k0_pay9, k0_pay10]
  simp only [H.h0, H.h1, H.h5, H.h6, heads_row H]

theorem xn_row (H : Holds b0 b1 b2 b3 b4 b5 b6 b7 r R a0 a1 a2 a3 a4 a5 a6) (c : Fin 1024) :
    k0_pay12 (F := Ideal) (k0_pay25 b0 b1 b2 b3 b4 b5 b6 b7 b8 b9 b10) (k0_pay26 b0 b1 b2 b3 b4 b5 b6 b7 b8 b9 b10)
        (k0_pay27 b0 b1 b2 b3 b4 b5 b6 b7 b8 b9 b10) (k0_pay28 b0 b1 b2 b3 b4 b5 b6 b7 b8 b9 b10) (View.ld b7 r0_7) (ix2 r c)
      = Cert.ReferenceIdeal.Read.val_main_v42 (F := Ideal) a0 a1 a2 a3 a4 a5 a6 (ix2 R c) := by
  rw [ref_xn]
  pointwise [k0_pay12]
  simp only [h1_row H, H.h7]

/-! ### Real rows -/

/-- Every entry of the arguments is real. -/
structure Reals (a0 : FVec Ideal S2x8192x1024 .f32) (a1 : FVec Ideal S2x8192x512 .bf16) (a2 a3 : FVec Ideal S2x8192x512 .f32)
    (a4 : FVec Ideal S128 .f32) (a5 : FVec Ideal S1024x1024 .f32) (a6 : FVec Ideal S1024 .f32)
    (a7 : FVec Ideal S1024x4 .f32) (a8 : FVec Ideal S4 .f32) (a9 : FVec Ideal S1024x4x8 .f32) (a10 : FVec Ideal S4x8 .f32) : Prop where
  r0 : ∀ i, IsReal (a0 i)
  r1 : ∀ i, IsReal (a1 i)
  r2 : ∀ i, IsReal (a2 i)
  r3 : ∀ i, IsReal (a3 i)
  r4 : ∀ i, IsReal (a4 i)
  r5 : ∀ i, IsReal (a5 i)
  r6 : ∀ i, IsReal (a6 i)
  r7 : ∀ i, IsReal (a7 i)
  r8 : ∀ i, IsReal (a8 i)
  r9 : ∀ i, IsReal (a9 i)
  r10 : ∀ i, IsReal (a10 i)

variable {a7 : FVec Ideal S1024x4 .f32} {a8 : FVec Ideal S4 .f32} {a9 : FVec Ideal S1024x4x8 .f32} {a10 : FVec Ideal S4x8 .f32}

theorem real_h1 (q : Reals a0 a1 a2 a3 a4 a5 a6 a7 a8 a9 a10) (R : Fin 16384) (c : Fin 1024) :
    IsReal (Cert.ReferenceIdeal.Read.val_main_v29 (F := Ideal) a0 a1 a2 a3 a4 a5 (ix2 R c)) := by
  rw [ref_h1]
  refine (q.r0 _).add ((IsReal.sum fun x => (q.r1 _).mul (q.r5 _)).add (IsReal.sum fun x => IsReal.mul ?_ (q.r5 _)))
  rw [ref_gated]
  exact (((q.r2 _).mul (isReal_rms (fun x => q.r2 _) isPos_128 isPos_eps)).mul (q.r4 _)).mul ((q.r3 _).mul (q.r3 _).sigmoid)

theorem real_xn (q : Reals a0 a1 a2 a3 a4 a5 a6 a7 a8 a9 a10) (R : Fin 16384) (c : Fin 1024) :
    IsReal (Cert.ReferenceIdeal.Read.val_main_v42 (F := Ideal) a0 a1 a2 a3 a4 a5 a6 (ix2 R c)) := by
  rw [ref_xn]
  exact ((real_h1 q R c).mul (isReal_rms (fun x => real_h1 q R x) isPos_1024 isPos_eps)).mul (q.r6 _)

/-- The routing weights' blocks hold the two heads' weights lane by lane. -/
structure HoldsW (b8 b9 : Vec Ideal S1024x128 .bf16) (b10 : Vec Ideal S1x128 .f32)
    (a7 : FVec Ideal S1024x4 .f32) (a8 : FVec Ideal S4 .f32) (a9 : FVec Ideal S1024x4x8 .f32) (a10 : FVec Ideal S4x8 .f32) : Prop where
  g8 : ∀ (k : Fin 1024) (i : Fin 4), b8 (ix2 k (lane4 i)) = a7 (ix2 k i)
  e8 : ∀ (k : Fin 1024) (g : Fin 4) (e : Fin 8), b8 (ix2 k (lane g e)) = a9 (ix3 k g e)
  h9 : ∀ (k : Fin 1024) (j : Fin 128), b9 (ix2 k j) = b8 (ix2 k j) - b8 (ix2 k j)
  g10 : ∀ i : Fin 4, b10 (ix2 0 (lane4 i)) = a8 (ix1 i)
  e10 : ∀ (g : Fin 4) (e : Fin 8), b10 (ix2 0 (lane g e)) = a10 (ix2 g e)

theorem logit_row (H : Holds b0 b1 b2 b3 b4 b5 b6 b7 r R a0 a1 a2 a3 a4 a5 a6)
    (q : Reals a0 a1 a2 a3 a4 a5 a6 a7 a8 a9 a10) (hw : HoldsW b8 b9 b10 a7 a8 a9 a10) (j : Fin 128)
    (hj : ∀ k, IsReal (b8 (ix2 k j))) :
    k0_pay29 (F := Ideal) b0 b1 b2 b3 b4 b5 b6 b7 b8 b9 b10 (ix2 r j) + k0_pay30 (F := Ideal) b0 b1 b2 b3 b4 b5 b6 b7 b8 b9 b10 (ix2 r j)
      = ∑ x, Cert.ReferenceIdeal.Read.val_main_v42 (F := Ideal) a0 a1 a2 a3 a4 a5 a6 (ix2 R x) * b8 (ix2 x j) + b10 (ix2 0 j) := by
  pointwise [k0_pay29, k0_pay30, k0_pay13, k0_pay14]
  simp only [xn_row H, hw.h9, fun x => (real_xn q R x).sub_self, fun k => (hj k).sub_self, zero_mul, mul_zero,
    Finset.sum_const_zero, add_zero]

theorem route_row (H : Holds b0 b1 b2 b3 b4 b5 b6 b7 r R a0 a1 a2 a3 a4 a5 a6)
    (q : Reals a0 a1 a2 a3 a4 a5 a6 a7 a8 a9 a10) (hw : HoldsW b8 b9 b10 a7 a8 a9 a10) (j : Fin 128) :
    k0_pay24 (iota .tc S512x128 32 [1] iota_S512x128_d1_w32)
        (k0_pay18 (k0_pay29 b0 b1 b2 b3 b4 b5 b6 b7 b8 b9 b10) (k0_pay30 b0 b1 b2 b3 b4 b5 b6 b7 b8 b9 b10))
        (k0_pay19 (k0_pay29 b0 b1 b2 b3 b4 b5 b6 b7 b8 b9 b10) (k0_pay30 b0 b1 b2 b3 b4 b5 b6 b7 b8 b9 b10))
        (k0_pay20 (k0_pay29 b0 b1 b2 b3 b4 b5 b6 b7 b8 b9 b10) (k0_pay30 b0 b1 b2 b3 b4 b5 b6 b7 b8 b9 b10))
        (k0_pay21 (k0_pay29 b0 b1 b2 b3 b4 b5 b6 b7 b8 b9 b10) (k0_pay30 b0 b1 b2 b3 b4 b5 b6 b7 b8 b9 b10))
        (k0_pay22 (k0_pay29 b0 b1 b2 b3 b4 b5 b6 b7 b8 b9 b10) (k0_pay30 b0 b1 b2 b3 b4 b5 b6 b7 b8 b9 b10))
        (k0_pay23 (F := Ideal)) (ix2 r j)
      = Cert.ReferenceIdeal.Read.val_main_v90 (F := Ideal) a0 a1 a2 a3 a4 a5 a6 a7 a8 a9 a10 (ix2 R j) := by
  have hG : ∀ i, IsReal (Cert.ReferenceIdeal.Read.val_main_v46 (F := Ideal) a0 a1 a2 a3 a4 a5 a6 a7 a8 (ix2 R i)) := fun i => by
    rw [ref_grp]; exact (IsReal.sum fun x => (real_xn q R x).mul (q.r7 _)).add (q.r8 _)
  have hE : ∀ g e, IsReal (Cert.ReferenceIdeal.Read.val_main_v63 (F := Ideal) a0 a1 a2 a3 a4 a5 a6 a9 a10 (ix3 R g e)) := fun g e => by
    rw [ref_exp]; exact (IsReal.sum fun x => (real_xn q R x).mul (q.r9 _)).add (q.r10 _)
  choose lg hlg using hG
  choose le hle using hE
  obtain ⟨g, e1, e2, hg, h1, h2, hrow⟩ := v90_row a0 a1 a2 a3 a4 a5 a6 a7 a8 a9 a10 R hlg hle
  rw [hrow]
  refine pay24_row _ _ r (L := fun j => _) (fun j => rfl) (fun i => ?_) hg (fun g e => ?_) h1 h2 j
  · rw [logit_row H q hw (lane4 i) fun k => by rw [hw.g8]; exact q.r7 _]
    simp only [hw.g8, hw.g10]
    rw [← ref_grp, hlg]
  · rw [logit_row H q hw (lane g e) fun k => by rw [hw.e8]; exact q.r9 _]
    simp only [hw.e8, hw.e10]
    rw [← ref_exp, hle]

end

end Cert.Route

end
-- ==== Proof.Blocks.lean ====
/- What each grid point's blocks hold: token rows of the arguments, and the routing weights lane by lane. -/
module

public import proofs.«01_k».proof.Proof.KerRow
public import proofs.«01_k».proof.Proof.Gen.KernelIdeal.Value
public import Idealize.ShloMosaic.Lib.Pipeline.ValueKit
public import Idealize.ShloMosaic.Lib.StableHlo.ReadAt

@[expose] public section

set_option maxRecDepth 16384

noncomputable section

namespace Cert.Route

open Idealize.ShloMosaic Idealize.SL.Sem Cert.KernelIdeal Cert.KernelIdeal.Gen

variable (m : (ℓ : Loc nD τ sig) → Buf (Elt Ideal) ℓ) (c : Dev nD)

/-- The block indices of every input window at a point. -/
theorem idx_in : ∀ t : Fin grid0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] := by decide +kernel

/-- The block indices of every output window at a point. -/
theorem idx_out : ∀ t : Fin grid0.N,
    win0_11.index t = ![t.val, 0] ∧ win0_12.index t = ![t.val, 0] ∧ win0_13.index t = ![t.val, 0] := by decide +kernel

/-- The token at row `r` of point `t`. -/
abbrev tok (t : Fin cfg0.N) (r : Fin 512) : Fin 16384 :=
  ⟨t.val * 512 + r.val, by have h : t.val < 32 := t.isLt; omega⟩

/-! ### The operands the host prepares, read at an index -/

theorem V_v17 (R : Fin 16384) (k : Fin 1024) :
    (V m c main_v17 : Vec Ideal S16384x1024 .f32) (ix2 R k) = m (c, Proc.devRef .tc main_arg0) (ix3 (hi R) (lo R) k) := by
  unfold V
  after_reads_at

theorem V_v18 (R : Fin 16384) (k : Fin 512) :
    (V m c main_v18 : Vec Ideal S16384x512 .bf16) (ix2 R k) = m (c, Proc.devRef .tc main_arg1) (ix3 (hi R) (lo R) k) := by
  unfold V
  after_reads_at

theorem V_v19 (R : Fin 16384) (k : Fin 512) :
    (V m c main_v19 : Vec Ideal S16384x512 .f32) (ix2 R k) = m (c, Proc.devRef .tc main_arg2) (ix3 (hi R) (lo R) k) := by
  unfold V
  after_reads_at

theorem V_v20 (R : Fin 16384) (k : Fin 512) :
    (V m c main_v20 : Vec Ideal S16384x512 .f32) (ix2 R k) = m (c, Proc.devRef .tc main_arg3) (ix3 (hi R) (lo R) k) := by
  unfold V
  after_reads_at

theorem V_v4 (k : Fin 128) :
    (V m c main_v4 : Vec Ideal S1x128 .f32) (ix2 0 k) = m (c, Proc.devRef .tc main_arg4) (ix1 k) := by
  unfold V
  after_reads_at

theorem V_v6 (k : Fin 512) (x : Fin 1024) :
    (V m c main_v6 : Vec Ideal S512x1024 .bf16) (ix2 k x) = m (c, Proc.devRef .tc main_arg5) (ix2 ⟨k.val, by omega⟩ x) := by
  unfold V
  after_reads_at

theorem V_v8 (k : Fin 512) (x : Fin 1024) :
    (V m c main_v8 : Vec Ideal S512x1024 .bf16) (ix2 k x) = m (c, Proc.devRef .tc main_arg5) (ix2 ⟨512 + k.val, by omega⟩ x) := by
  unfold V
  after_reads_at

theorem V_v9 (k : Fin 1024) :
    (V m c main_v9 : Vec Ideal S1x1024 .f32) (ix2 0 k) = m (c, Proc.devRef .tc main_arg6) (ix1 k) := by
  unfold V
  after_reads_at

theorem V_v3_grp (k : Fin 1024) (i : Fin 4) :
    (V m c main_v3 : Vec Ideal S1024x128 .bf16) (ix2 k (lane4 i)) = m (c, Proc.devRef .tc main_arg7) (ix2 k i) := by
  unfold V
  after_reads_at
  refine (dif_pos (show i.val < 36 by omega)).trans ((dif_pos (show i.val < 4 from i.isLt)).trans ?_)
  after_reads_at
  rfl

theorem V_v3_exp (k : Fin 1024) (g : Fin 4) (e : Fin 8) :
    (V m c main_v3 : Vec Ideal S1024x128 .bf16) (ix2 k (lane g e)) = m (c, Proc.devRef .tc main_arg9) (ix3 k g e) := by
  have hg := g.isLt
  have he := e.isLt
  have hl : (lane g e).val = 4 + 8 * g.val + e.val := rfl
  unfold V
  after_reads_at
  rw [dif_pos (by omega), dif_neg (by omega)]
  after_reads_at
  refine congrArg _ ?_
  simp only [hl]
  congr 1 <;> first | exact Fin.ext (by show _ / 8 = _; omega) | exact Fin.ext (by show _ % 8 = _; omega)

/-- The routing weights as the region finds them. -/
abbrev V3 : Vec Ideal S1024x128 .bf16 := V m c main_v3

theorem V_v12 (k : Fin 1024) (j : Fin 128) :
    (V m c main_v12 : Vec Ideal S1024x128 .bf16) (ix2 k j)
      = V3 m c (ix2 k j) - V3 m c (ix2 k j) := by
  unfold V3 V
  after_reads_at

theorem V_v16_grp (i : Fin 4) :
    (V m c main_v16 : Vec Ideal S1x128 .f32) (ix2 0 (lane4 i)) = m (c, Proc.devRef .tc main_arg8) (ix1 i) := by
  unfold V
  after_reads_at
  refine (dif_pos (show i.val < 36 by omega)).trans ((dif_pos (show i.val < 4 from i.isLt)).trans ?_)
  after_reads_at
  rfl

theorem V_v16_exp (g : Fin 4) (e : Fin 8) :
    (V m c main_v16 : Vec Ideal S1x128 .f32) (ix2 0 (lane g e)) = m (c, Proc.devRef .tc main_arg10) (ix2 g e) := by
  have hg := g.isLt
  have he := e.isLt
  have hl : (lane g e).val = 4 + 8 * g.val + e.val := rfl
  unfold V
  after_reads_at
  rw [dif_pos (by omega), dif_neg (by omega)]
  after_reads_at
  refine congrArg _ ?_
  simp only [hl]
  congr 1 <;> first | exact Fin.ext (by show _ / 8 = _; omega) | exact Fin.ext (by show _ % 8 = _; omega)

theorem blk0 (t : Fin cfg0.N) (r : Fin 512) (k : Fin 1024) :
    (iblk m c 0 t : Vec Ideal S512x1024 .f32) (ix2 r k) = (V m c main_v17 : Vec Ideal S16384x1024 .f32) (ix2 (tok t r) k) := by
  blk_simp [iblk]
  refine congrArg (V m c main_v17) ?_
  blk_ext [idx_in t]

theorem blk1 (t : Fin cfg0.N) (r : Fin 512) (k : Fin 512) :
    (iblk m c 1 t : Vec Ideal S512x512 .bf16) (ix2 r k) = (V m c main_v18 : Vec Ideal S16384x512 .bf16) (ix2 (tok t r) k) := by
  blk_simp [iblk]
  refine congrArg (V m c main_v18) ?_
  blk_ext [idx_in t]

theorem blk2 (t : Fin cfg0.N) (r : Fin 512) (k : Fin 512) :
    (iblk m c 2 t : Vec Ideal S512x512 .f32) (ix2 r k) = (V m c main_v19 : Vec Ideal S16384x512 .f32) (ix2 (tok t r) k) := by
  blk_simp [iblk]
  refine congrArg (V m c main_v19) ?_
  blk_ext [idx_in t]

theorem blk3 (t : Fin cfg0.N) (r : Fin 512) (k : Fin 512) :
    (iblk m c 3 t : Vec Ideal S512x512 .f32) (ix2 r k) = (V m c main_v20 : Vec Ideal S16384x512 .f32) (ix2 (tok t r) k) := by
  blk_simp [iblk]
  refine congrArg (V m c main_v20) ?_
  blk_ext [idx_in t]

theorem blk4 (t : Fin cfg0.N) (k : Fin 128) :
    (iblk m c 4 t : Vec Ideal S1x128 .f32) (ix2 0 k) = (V m c main_v4 : Vec Ideal S1x128 .f32) (ix2 0 k) := by
  blk_simp [iblk]
  refine congrArg (V m c main_v4) ?_
  blk_ext [idx_in t]

theorem blk5 (t : Fin cfg0.N) (r : Fin 512) (k : Fin 1024) :
    (iblk m c 5 t : Vec Ideal S512x1024 .bf16) (ix2 r k) = (V m c main_v6 : Vec Ideal S512x1024 .bf16) (ix2 r k) := by
  blk_simp [iblk]
  refine congrArg (V m c main_v6) ?_
  blk_ext [idx_in t]

theorem blk6 (t : Fin cfg0.N) (r : Fin 512) (k : Fin 1024) :
    (iblk m c 6 t : Vec Ideal S512x1024 .bf16) (ix2 r k) = (V m c main_v8 : Vec Ideal S512x1024 .bf16) (ix2 r k) := by
  blk_simp [iblk]
  refine congrArg (V m c main_v8) ?_
  blk_ext [idx_in t]

theorem blk7 (t : Fin cfg0.N) (k : Fin 1024) :
    (iblk m c 7 t : Vec Ideal S1x1024 .f32) (ix2 0 k) = (V m c main_v9 : Vec Ideal S1x1024 .f32) (ix2 0 k) := by
  blk_simp [iblk]
  refine congrArg (V m c main_v9) ?_
  blk_ext [idx_in t]

theorem holds_at (t : Fin cfg0.N) (r : Fin 512) :
    Holds (iblk m c 0 t) (iblk m c 1 t) (iblk m c 2 t) (iblk m c 3 t) (iblk m c 4 t) (iblk m c 5 t) (iblk m c 6 t) (iblk m c 7 t)
      r (tok t r) (m (c, Proc.devRef .tc main_arg0)) (m (c, Proc.devRef .tc main_arg1)) (m (c, Proc.devRef .tc main_arg2))
      (m (c, Proc.devRef .tc main_arg3)) (m (c, Proc.devRef .tc main_arg4)) (m (c, Proc.devRef .tc main_arg5))
      (m (c, Proc.devRef .tc main_arg6)) where
  h0 k := (blk0 m c t r k).trans (V_v17 m c _ _)
  h1 k := (blk1 m c t r k).trans (V_v18 m c _ _)
  h2 k := (blk2 m c t r k).trans (V_v19 m c _ _)
  h3 k := (blk3 m c t r k).trans (V_v20 m c _ _)
  h4 k := (blk4 m c t k).trans (V_v4 m c _)
  h5 k x := (blk5 m c t k x).trans (V_v6 m c _ _)
  h6 k x := (blk6 m c t k x).trans (V_v8 m c _ _)
  h7 k := (blk7 m c t k).trans (V_v9 m c _)

theorem blk8 (t : Fin cfg0.N) (k : Fin 1024) (j : Fin 128) :
    (iblk m c 8 t : Vec Ideal S1024x128 .bf16) (ix2 k j) = (V m c main_v3 : Vec Ideal S1024x128 .bf16) (ix2 k j) := by
  blk_simp [iblk]
  refine congrArg (V m c main_v3) ?_
  blk_ext [idx_in t]

theorem blk9 (t : Fin cfg0.N) (k : Fin 1024) (j : Fin 128) :
    (iblk m c 9 t : Vec Ideal S1024x128 .bf16) (ix2 k j) = (V m c main_v12 : Vec Ideal S1024x128 .bf16) (ix2 k j) := by
  blk_simp [iblk]
  refine congrArg (V m c main_v12) ?_
  blk_ext [idx_in t]

theorem blk10 (t : Fin cfg0.N) (j : Fin 128) :
    (iblk m c 10 t : Vec Ideal S1x128 .f32) (ix2 0 j) = (V m c main_v16 : Vec Ideal S1x128 .f32) (ix2 0 j) := by
  blk_simp [iblk]
  refine congrArg (V m c main_v16) ?_
  blk_ext [idx_in t]

theorem holdsW_at (t : Fin cfg0.N) :
    HoldsW (iblk m c 8 t) (iblk m c 9 t) (iblk m c 10 t) (m (c, Proc.devRef .tc main_arg7)) (m (c, Proc.devRef .tc main_arg8))
      (m (c, Proc.devRef .tc main_arg9)) (m (c, Proc.devRef .tc main_arg10)) where
  g8 k i := (blk8 m c t _ _).trans (V_v3_grp m c _ _)
  e8 k g e := (blk8 m c t _ _).trans (V_v3_exp m c _ _ _)
  h9 k j := by rw [blk8 m c t k j]; exact (blk9 m c t k j).trans (V_v12 m c k j)
  g10 i := (blk10 m c t _).trans (V_v16_grp m c _)
  e10 g e := (blk10 m c t _).trans (V_v16_exp m c _ _)

/-! ### The result arrays -/

/-- An index of a two-axis array is the index of its coordinates. -/
theorem ix2_eta {n0 n1 : ℕ} (y : (⟨2, ![n0, n1]⟩ : Shape).Idx) : y = ix2 ((y 0).cast rfl) ((y 1).cast rfl) := by
  funext a
  match a with
  | ⟨0, _⟩ => rfl
  | ⟨1, _⟩ => rfl

theorem emb_row {n : ℕ} (t : Fin cfg0.N) (y : (⟨2, ![512, n]⟩ : Shape).Idx) (i : (⟨2, ![16384, n]⟩ : Shape).Idx)
    (h0 : (i 0).val = t.val * 512 + (y 0).val) (h1 : (i 1).val = (y 1).val) :
    i = ix2 (tok t ((y 0).cast rfl)) ((y 1).cast rfl) := by
  funext a
  match a with
  | ⟨0, _⟩ => exact Fin.ext h0
  | ⟨1, _⟩ => exact Fin.ext h1

abbrev A29 : Vec Ideal S16384x1024 .f32 :=
  Cert.ReferenceIdeal.Read.val_main_v29 (F := Ideal) (m (c, Proc.devRef .tc main_arg0)) (m (c, Proc.devRef .tc main_arg1))
    (m (c, Proc.devRef .tc main_arg2)) (m (c, Proc.devRef .tc main_arg3)) (m (c, Proc.devRef .tc main_arg4))
    (m (c, Proc.devRef .tc main_arg5))

abbrev A42 : Vec Ideal S16384x1024 .f32 :=
  Cert.ReferenceIdeal.Read.val_main_v42 (F := Ideal) (m (c, Proc.devRef .tc main_arg0)) (m (c, Proc.devRef .tc main_arg1))
    (m (c, Proc.devRef .tc main_arg2)) (m (c, Proc.devRef .tc main_arg3)) (m (c, Proc.devRef .tc main_arg4))
    (m (c, Proc.devRef .tc main_arg5)) (m (c, Proc.devRef .tc main_arg6))

abbrev A90 : Vec Ideal S16384x128 .f32 :=
  Cert.ReferenceIdeal.Read.val_main_v90 (F := Ideal) (m (c, Proc.devRef .tc main_arg0)) (m (c, Proc.devRef .tc main_arg1))
    (m (c, Proc.devRef .tc main_arg2)) (m (c, Proc.devRef .tc main_arg3)) (m (c, Proc.devRef .tc main_arg4))
    (m (c, Proc.devRef .tc main_arg5)) (m (c, Proc.devRef .tc main_arg6)) (m (c, Proc.devRef .tc main_arg7))
    (m (c, Proc.devRef .tc main_arg8)) (m (c, Proc.devRef .tc main_arg9)) (m (c, Proc.devRef .tc main_arg10))

/-- The first result array: the residual stream. -/
theorem arr11 : (dats m 0 c).arrAt 11 cfg0.N = A29 m c := by
  refine (dats m 0 c).arrAt_eq_of_covers 11 _ (by decide +kernel) fun t hf y => ?_
  blk_simp
  rw [after0_11]
  frame_out
  rw [emb_row t y (((View.whole main_v21_0).slice (win0_11.rect t)).emb y) (by blk_simp [idx_out t]) (by blk_simp [idx_out t])]
  exact (congrArg _ (ix2_eta y)).trans (h1_row (holds_at m c t _) _)

theorem xn_row_whole {b0 : Vec Ideal S512x1024 .f32} {b1 : Vec Ideal S512x512 .bf16} {b2 b3 : Vec Ideal S512x512 .f32}
    {b4 : Vec Ideal S1x128 .f32} {b5 b6 : Vec Ideal S512x1024 .bf16} {b7 : Vec Ideal S1x1024 .f32}
    {b8 b9 : Vec Ideal S1024x128 .bf16} {b10 : Vec Ideal S1x128 .f32} {r : Fin 512} {R : Fin 16384}
    {a0 : FVec Ideal S2x8192x1024 .f32} {a1 : FVec Ideal S2x8192x512 .bf16} {a2 a3 : FVec Ideal S2x8192x512 .f32}
    {a4 : FVec Ideal S128 .f32} {a5 : FVec Ideal S1024x1024 .f32} {a6 : FVec Ideal S1024 .f32}
    (H : Holds b0 b1 b2 b3 b4 b5 b6 b7 r R a0 a1 a2 a3 a4 a5 a6) (k : Fin 1024) :
    k0_pay12 (F := Ideal) (k0_pay25 b0 b1 b2 b3 b4 b5 b6 b7 b8 b9 b10) (k0_pay26 b0 b1 b2 b3 b4 b5 b6 b7 b8 b9 b10)
        (k0_pay27 b0 b1 b2 b3 b4 b5 b6 b7 b8 b9 b10) (k0_pay28 b0 b1 b2 b3 b4 b5 b6 b7 b8 b9 b10) b7 (ix2 r k)
      = Cert.ReferenceIdeal.Read.val_main_v42 (F := Ideal) a0 a1 a2 a3 a4 a5 a6 (ix2 R k) := by
  rw [ref_xn]
  pointwise [k0_pay12]
  simp only [h1_row H, H.h7]

/-- The second result array: its normed rows. -/
theorem arr12 : (dats m 0 c).arrAt 12 cfg0.N = A42 m c := by
  refine (dats m 0 c).arrAt_eq_of_covers 12 _ (by decide +kernel) fun t hf y => ?_
  blk_simp
  rw [after0_12]
  frame_out
  rw [emb_row t y (((View.whole main_v21_1).slice (win0_12.rect t)).emb y) (by blk_simp [idx_out t]) (by blk_simp [idx_out t])]
  exact (congrArg _ (ix2_eta y)).trans (xn_row_whole (holds_at m c t _) _)

/-- The third result array: the routing table, where every argument is real. -/
theorem arr13 (q : Reals (m (c, Proc.devRef .tc main_arg0)) (m (c, Proc.devRef .tc main_arg1)) (m (c, Proc.devRef .tc main_arg2))
      (m (c, Proc.devRef .tc main_arg3)) (m (c, Proc.devRef .tc main_arg4)) (m (c, Proc.devRef .tc main_arg5))
      (m (c, Proc.devRef .tc main_arg6)) (m (c, Proc.devRef .tc main_arg7)) (m (c, Proc.devRef .tc main_arg8))
      (m (c, Proc.devRef .tc main_arg9)) (m (c, Proc.devRef .tc main_arg10))) :
    (dats m 0 c).arrAt 13 cfg0.N = A90 m c := by
  refine (dats m 0 c).arrAt_eq_of_covers 13 _ (by decide +kernel) fun t hf y => ?_
  blk_simp
  rw [after0_13]
  frame_out
  rw [emb_row t y (((View.whole main_v21_2).slice (win0_13.rect t)).emb y) (by blk_simp [idx_out t]) (by blk_simp [idx_out t])]
  exact (congrArg _ (ix2_eta y)).trans (route_row (holds_at m c t _) q (holdsW_at m c t) _)

end Cert.Route

end
-- ==== Proof.Finite.lean ====
/- The precondition, read: every entry of every argument is a real number. -/
module

public import proofs.«01_k».proof.Defs
public import proofs.«01_k».proof.Proof.KerRow

@[expose] public section

set_option maxRecDepth 16384

noncomputable section

namespace Cert.Route

open Idealize.ShloMosaic Idealize.SL.Sem

/-- The side conditions the precondition's operations take. -/
theorem pre_facts : Cert.Pre_finite.Facts := by
  constructor <;> decide

theorem inf_f32 : Ideal.ofBits FTy.f32 0x7F800000#32 = ⊤ := by simp [Ideal.ofBits, Ideal.ieee]
theorem inf_bf16 : Ideal.ofBits FTy.bf16 0x7F80#16 = ⊤ := by simp [Ideal.ofBits, Ideal.ieee]

/-- A number whose magnitude lies below infinity is real. -/
theorem isReal_of_lt {x : EReal} (h : BitVec.ofBool (decide (max x (-x) < ⊤)) = 1#1) : IsReal x := by
  induction x with
  | bot => simp at h
  | top => simp at h
  | coe r => exact ⟨r, rfl⟩

open Cert.KernelIdeal in
theorem reals_of_pre (m : (ℓ : Loc nD τ sig) → Buf (Elt Ideal) ℓ) (h : @Cert.Pre_KernelIdeal_finite pre_facts m) (c : Dev nD) :
    Reals (m (c, Proc.devRef .tc main_arg0)) (m (c, Proc.devRef .tc main_arg1)) (m (c, Proc.devRef .tc main_arg2))
      (m (c, Proc.devRef .tc main_arg3)) (m (c, Proc.devRef .tc main_arg4)) (m (c, Proc.devRef .tc main_arg5))
      (m (c, Proc.devRef .tc main_arg6)) (m (c, Proc.devRef .tc main_arg7)) (m (c, Proc.devRef .tc main_arg8))
      (m (c, Proc.devRef .tc main_arg9)) (m (c, Proc.devRef .tc main_arg10)) := by
  obtain ⟨p0, p1, p2, p3, p4, p5, p6, p7, p8, p9, p10⟩ := h c
  refine ⟨fun i => ?_, fun i => ?_, fun i => ?_, fun i => ?_, fun i => ?_, fun i => ?_, fun i => ?_, fun i => ?_, fun i => ?_,
    fun i => ?_, fun i => ?_⟩
  · have e := congrFun p0 i
    dsimp only [Cert.Pre_finite.fn, Cert.Pre_finite.fn_part1] at e
    pointwise at e
    rw [inf_f32] at e
    exact isReal_of_lt e
  · have e := congrFun p1 i
    dsimp only [Cert.Pre_finite.fn, Cert.Pre_finite.fn_part1] at e
    pointwise at e
    rw [inf_bf16] at e
    exact isReal_of_lt e
  · have e := congrFun p2 i
    dsimp only [Cert.Pre_finite.fn, Cert.Pre_finite.fn_part1] at e
    pointwise at e
    rw [inf_f32] at e
    exact isReal_of_lt e
  · have e := congrFun p3 i
    dsimp only [Cert.Pre_finite.fn, Cert.Pre_finite.fn_part1] at e
    pointwise at e
    rw [inf_f32] at e
    exact isReal_of_lt e
  · have e := congrFun p4 i
    dsimp only [Cert.Pre_finite.fn, Cert.Pre_finite.fn_part1] at e
    pointwise at e
    rw [inf_f32] at e
    exact isReal_of_lt e
  · have e := congrFun p5 i
    dsimp only [Cert.Pre_finite.fn, Cert.Pre_finite.fn_part1] at e
    pointwise at e
    rw [inf_f32] at e
    exact isReal_of_lt e
  · have e := congrFun p6 i
    dsimp only [Cert.Pre_finite.fn, Cert.Pre_finite.fn_part1] at e
    pointwise at e
    rw [inf_f32] at e
    exact isReal_of_lt e
  · have e := congrFun p7 i
    dsimp only [Cert.Pre_finite.fn, Cert.Pre_finite.fn_part1] at e
    pointwise at e
    rw [inf_f32] at e
    exact isReal_of_lt e
  · have e := congrFun p8 i
    dsimp only [Cert.Pre_finite.fn, Cert.Pre_finite.fn_part1] at e
    pointwise at e
    rw [inf_f32] at e
    exact isReal_of_lt e
  · have e := congrFun p9 i
    dsimp only [Cert.Pre_finite.fn, Cert.Pre_finite.fn_part1] at e
    pointwise at e
    rw [inf_f32] at e
    exact isReal_of_lt e
  · have e := congrFun p10 i
    dsimp only [Cert.Pre_finite.fn, Cert.Pre_finite.fn_part1] at e
    pointwise at e
    rw [inf_f32] at e
    exact isReal_of_lt e

end Cert.Route

end
-- ==== Proof.ProjHost.lean ====
/- What the host prepares for the projections' launch, and what each grid point's input blocks hold of it. -/
module

public import proofs.«01_k».proof.Proof.Gen.Kernel2Ideal.Frame.Runs
public import Idealize.ShloMosaic.Lib.Pipeline.ValueKit
public import Idealize.ShloMosaic.Lib.StableHlo.ReadAt

@[expose] public section

set_option maxRecDepth 16384

noncomputable section

namespace Cert.Proj

open Idealize.ShloMosaic Idealize.SL.Sem Cert.Kernel2Ideal Cert.Kernel2Ideal.Gen

variable (m : (ℓ : Loc nD τ sig) → Buf (Elt Ideal) ℓ) (c : Dev nD)

theorem V_v11 (k : Fin 1024) :
    (V m c main_v11 : Vec Ideal S1x1024 .f32) (ix2 0 k) = m (c, Proc.devRef .tc main_arg3) (ix1 k) := by
  unfold V
  after_reads_at

theorem V_v13 (k : Fin 1024) (j : Fin 1536) :
    (V m c main_v13 : Vec Ideal S1024x1536 .bf16) (ix2 k j) = m (c, Proc.devRef .tc main_arg4) (ix2 k ⟨j.val, by omega⟩) := by
  unfold V
  after_reads_at

theorem V_v15 (k : Fin 1024) (j : Fin 1536) :
    (V m c main_v15 : Vec Ideal S1024x1536 .bf16) (ix2 k j) = m (c, Proc.devRef .tc main_arg4) (ix2 k ⟨1536 + j.val, by omega⟩) := by
  unfold V
  after_reads_at

theorem V_v17 (k : Fin 1024) (j : Fin 512) :
    (V m c main_v17 : Vec Ideal S1024x512 .bf16) (ix2 k j) = m (c, Proc.devRef .tc main_arg4) (ix2 k ⟨3072 + j.val, by omega⟩) := by
  unfold V
  after_reads_at

theorem V_v18 (k : Fin 1024) (j : Fin 8) :
    (V m c main_v18 : Vec Ideal S1024x128 .bf16) (ix2 k ⟨j.val, by omega⟩) = m (c, Proc.devRef .tc main_arg4) (ix2 k ⟨3584 + j.val, by omega⟩) := by
  unfold V
  after_reads_at

theorem V_v19 (k : Fin 512) :
    (V m c main_v19 : Vec Ideal S1x512 .f32) (ix2 0 k) = m (c, Proc.devRef .tc main_arg6) (ix1 k) := by
  unfold V
  after_reads_at

theorem V_v21 (k : Fin 4) :
    (V m c main_v21 : Vec Ideal S1x128 .f32) (ix2 0 ⟨k.val, by omega⟩) = m (c, Proc.devRef .tc main_arg8) (ix1 k) := by
  unfold V
  after_reads_at

theorem V_v23 (k : Fin 4) :
    (V m c main_v23 : Vec Ideal S1x128 .f32) (ix2 0 ⟨k.val, by omega⟩) = m (c, Proc.devRef .tc main_arg9) (ix1 k) := by
  unfold V
  after_reads_at

/-- The host's floor of a word's quotient by 64, as it computes it. -/
def floor64 (x : BitVec 32) : BitVec 32 :=
  Scalar.select
    (IntOp.andi
      (IntOp.cmpi CmpIPredicate.ne (if x = 0 then (0 : BitVec 32) else if x.msb = true then -1 else 1)
        (if (64#32 : BitVec 32) = 0 then (0 : BitVec 32) else if BitVec.msb (64#32 : BitVec 32) = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

theorem floor64_eq : ∀ h : Fin 512, floor64 (BitVec.ofNat 32 h.val) = BitVec.ofNat 32 (h.val / 64) := by decide +kernel

theorem eq_word : ∀ p q : Fin 8, IntOp.cmpi CmpIPredicate.eq (BitVec.ofNat 32 p.val) (BitVec.ofNat 32 q.val) = if p = q then 1#1 else 0#1 := by
  decide +kernel

theorem inv64 : Ideal.ofBits FTy.f32 1015021568#32 = (((1 / 64 : ℝ)) : EReal) := by
  simp [Ideal.ofBits, Ideal.ieee]
  rw [← EReal.coe_mul]
  norm_num

theorem V_v10 (j k : Fin 512) :
    (V m c main_v10 : Vec Ideal S512x512 .bf16) (ix2 j k) = if j.val / 64 = k.val / 64 then (((1 / 64 : ℝ)) : EReal) else 0 := by
  unfold V
  after_reads_at
  refine (show _ = Scalar.select (IntOp.cmpi CmpIPredicate.eq (floor64 (BitVec.ofNat 32 j.val)) (floor64 (BitVec.ofNat 32 k.val)))
    (Ideal.ofBits FTy.f32 1015021568#32) 0 from rfl).trans ?_
  rw [floor64_eq j, floor64_eq k, eq_word ⟨j.val / 64, by omega⟩ ⟨k.val / 64, by omega⟩, inv64]
  by_cases h : j.val / 64 = k.val / 64
  · rw [if_pos h, if_pos (Fin.ext h)]; rfl
  · rw [if_neg h, if_neg (fun e => h (congrArg Fin.val e))]; rfl

/-- The block indices of every input window at a point. -/
theorem idx_in : ∀ t : Fin grid0.N,
    win0_0.index t = ![t.val / 16, t.val % 16, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] := by decide +kernel

/-- The block indices of every output window at a point. -/
theorem idx_out : ∀ t : Fin grid0.N,
    win0_14.index t = ![t.val / 16, t.val % 16, 0] ∧ win0_15.index t = ![t.val / 16, t.val % 16, 0]
    ∧ win0_16.index t = ![t.val / 16, t.val % 16, 0] ∧ win0_17.index t = ![t.val / 16, t.val % 16, 0]
    ∧ win0_18.index t = ![t.val / 16, t.val % 16, 0] ∧ win0_19.index t = ![t.val / 16, t.val % 16, 0]
    ∧ win0_20.index t = ![t.val / 16, 0, 0] ∧ win0_21.index t = ![t.val / 16, 0, 0] := by decide +kernel

/-- The sequence a point works on. -/
abbrev seqOf (t : Fin cfg0.N) : Fin 2 := ⟨t.val / 16, by have h : t.val < 32 := t.isLt; omega⟩

/-- The token at row `r` of point `t`. -/
abbrev tokOf (t : Fin cfg0.N) (r : Fin 512) : Fin 8192 := ⟨t.val % 16 * 512 + r.val, by omega⟩

theorem blk0 (t : Fin cfg0.N) (r : Fin 512) (k : Fin 1024) :
    (iblk m c 0 t : Vec Ideal S1x512x1024 .f32) (ix3 0 r k) = (V m c main_arg0 : Vec Ideal S2x8192x1024 .f32) (ix3 (seqOf t) (tokOf t r) k) := by
  blk_simp [iblk]
  refine congrArg (V m c main_arg0) ?_
  blk_ext [idx_in t]

theorem blk1 (t : Fin cfg0.N) (r : Fin 8) (k : Fin 512) :
    (iblk m c 1 t : Vec Ideal S8x512 .f32) (ix2 r k) = (V m c main_arg1 : Vec Ideal S8x512 .f32) (ix2 r k) := by
  blk_simp [iblk]
  refine congrArg (V m c main_arg1) ?_
  blk_ext [idx_in t]

theorem blk2 (t : Fin cfg0.N) (r : Fin 8) (k : Fin 1536) :
    (iblk m c 2 t : Vec Ideal S8x1536 .f32) (ix2 r k) = (V m c main_arg2 : Vec Ideal S8x1536 .f32) (ix2 r k) := by
  blk_simp [iblk]
  refine congrArg (V m c main_arg2) ?_
  blk_ext [idx_in t]

theorem blk3 (t : Fin cfg0.N) (r : Fin 1) (k : Fin 1024) :
    (iblk m c 3 t : Vec Ideal S1x1024 .f32) (ix2 r k) = (V m c main_v11 : Vec Ideal S1x1024 .f32) (ix2 r k) := by
  blk_simp [iblk]
  refine congrArg (V m c main_v11) ?_
  blk_ext [idx_in t]

theorem blk4 (t : Fin cfg0.N) (r : Fin 1024) (k : Fin 1536) :
    (iblk m c 4 t : Vec Ideal S1024x1536 .bf16) (ix2 r k) = (V m c main_v13 : Vec Ideal S1024x1536 .bf16) (ix2 r k) := by
  blk_simp [iblk]
  refine congrArg (V m c main_v13) ?_
  blk_ext [idx_in t]

theorem blk5 (t : Fin cfg0.N) (r : Fin 1024) (k : Fin 1536) :
    (iblk m c 5 t : Vec Ideal S1024x1536 .bf16) (ix2 r k) = (V m c main_v15 : Vec Ideal S1024x1536 .bf16) (ix2 r k) := by
  blk_simp [iblk]
  refine congrArg (V m c main_v15) ?_
  blk_ext [idx_in t]

theorem blk6 (t : Fin cfg0.N) (r : Fin 1024) (k : Fin 512) :
    (iblk m c 6 t : Vec Ideal S1024x512 .bf16) (ix2 r k) = (V m c main_v17 : Vec Ideal S1024x512 .bf16) (ix2 r k) := by
  blk_simp [iblk]
  refine congrArg (V m c main_v17) ?_
  blk_ext [idx_in t]

theorem blk7 (t : Fin cfg0.N) (r : Fin 1024) (k : Fin 128) :
    (iblk m c 7 t : Vec Ideal S1024x128 .bf16) (ix2 r k) = (V m c main_v18 : Vec Ideal S1024x128 .bf16) (ix2 r k) := by
  blk_simp [iblk]
  refine congrArg (V m c main_v18) ?_
  blk_ext [idx_in t]

theorem blk8 (t : Fin cfg0.N) (r : Fin 3) (k : Fin 512) :
    (iblk m c 8 t : Vec Ideal S3x512 .f32) (ix2 r k) = (V m c main_arg5 : Vec Ideal S3x512 .f32) (ix2 r k) := by
  blk_simp [iblk]
  refine congrArg (V m c main_arg5) ?_
  blk_ext [idx_in t]

theorem blk9 (t : Fin cfg0.N) (r : Fin 1) (k : Fin 512) :
    (iblk m c 9 t : Vec Ideal S1x512 .f32) (ix2 r k) = (V m c main_v19 : Vec Ideal S1x512 .f32) (ix2 r k) := by
  blk_simp [iblk]
  refine congrArg (V m c main_v19) ?_
  blk_ext [idx_in t]

theorem blk10 (t : Fin cfg0.N) (r : Fin 512) (k : Fin 512) :
    (iblk m c 10 t : Vec Ideal S512x512 .bf16) (ix2 r k) = (V m c main_v10 : Vec Ideal S512x512 .bf16) (ix2 r k) := by
  blk_simp [iblk]
  refine congrArg (V m c main_v10) ?_
  blk_ext [idx_in t]

theorem blk11 (t : Fin cfg0.N) (r : Fin 4) (k : Fin 1536) :
    (iblk m c 11 t : Vec Ideal S4x1536 .f32) (ix2 r k) = (V m c main_arg7 : Vec Ideal S4x1536 .f32) (ix2 r k) := by
  blk_simp [iblk]
  refine congrArg (V m c main_arg7) ?_
  blk_ext [idx_in t]

theorem blk12 (t : Fin cfg0.N) (r : Fin 1) (k : Fin 128) :
    (iblk m c 12 t : Vec Ideal S1x128 .f32) (ix2 r k) = (V m c main_v21 : Vec Ideal S1x128 .f32) (ix2 r k) := by
  blk_simp [iblk]
  refine congrArg (V m c main_v21) ?_
  blk_ext [idx_in t]

theorem blk13 (t : Fin cfg0.N) (r : Fin 1) (k : Fin 128) :
    (iblk m c 13 t : Vec Ideal S1x128 .f32) (ix2 r k) = (V m c main_v23 : Vec Ideal S1x128 .f32) (ix2 r k) := by
  blk_simp [iblk]
  refine congrArg (V m c main_v23) ?_
  blk_ext [idx_in t]

end Cert.Proj

end
-- ==== Proof.ProjRef.lean ====
/- The projections' reference, read at an index: the normed row times the input weights, the two causal
   convolutions over the sequence with its history in front, and the norms of their rows. -/
module

public import proofs.«01_k».proof.Proof.Gen.Reference2Ideal.Read
public import Idealize.ShloMosaic.Lib.Pointwise

@[expose] public section

set_option maxRecDepth 16384

noncomputable section

namespace Cert.Proj

open Idealize.ShloMosaic Idealize.SL.Sem Cert.Reference2Ideal Cert.Reference2Ideal.Gen Cert.Reference2Ideal.Read

variable (a0 : FVec Ideal S2x8192x1024 .f32) (a1 : FVec Ideal S8x512 .f32) (a2 : FVec Ideal S8x1536 .f32)
  (a3 : FVec Ideal S1024 .f32) (a4 : FVec Ideal S1024x3592 .f32) (a5 : FVec Ideal S3x512 .f32) (a6 : FVec Ideal S512 .f32)
  (a7 : FVec Ideal S4x1536 .f32) (a8 a9 : FVec Ideal S4 .f32) (b : Fin 2) (l : Fin 8192)

theorem ref_xn (k : Fin 1024) :
    val_main_v12 (F := Ideal) a0 a3 (ix3 b l k)
      = a0 (ix3 b l k)
          * Ideal.rsqrt (Ideal.div (∑ x, a0 (ix3 b l x) * a0 (ix3 b l x)) (Ideal.ofBits FTy.f32 1149239296#32)
            + Ideal.ofBits FTy.f32 897988541#32) * a3 (ix1 k) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_proj (j : Fin 3592) :
    val_main_v13 (F := Ideal) a0 a3 a4 (ix3 b l j) = ∑ k, val_main_v12 (F := Ideal) a0 a3 (ix3 b l k) * a4 (ix2 k j) := by
  pointwise [val_main_v13]

/-- The gated input of the first convolution, behind its history. -/
def cux (n : Fin 8200) (h : Fin 512) : EReal :=
  if hn : n.val < 8 then a1 (ix2 ⟨n.val, hn⟩ h) else val_main_v21 (F := Ideal) a0 a3 a4 (ix3 b ⟨n.val - 8, by omega⟩ h)

/-- The input of the second convolution, behind its history. -/
def qkx (n : Fin 8200) (h : Fin 1536) : EReal :=
  if hn : n.val < 8 then a2 (ix2 ⟨n.val, hn⟩ h) else val_main_v17 (F := Ideal) a0 a3 a4 (ix3 b ⟨n.val - 8, by omega⟩ h)

theorem ref_cu (h : Fin 512) :
    val_main_v21 (F := Ideal) a0 a3 a4 (ix3 b l h)
      = val_main_v13 (F := Ideal) a0 a3 a4 (ix3 b l ⟨512 + h.val, by omega⟩)
        * val_main_v13 (F := Ideal) a0 a3 a4 (ix3 b l ⟨1024 + h.val, by omega⟩) := by
  pointwise [val_main_v21, val_main_v15, val_main_v16]

theorem ref_qkv (h : Fin 1536) :
    val_main_v17 (F := Ideal) a0 a3 a4 (ix3 b l h) = val_main_v13 (F := Ideal) a0 a3 a4 (ix3 b l ⟨1536 + h.val, by omega⟩) := by
  pointwise [val_main_v17]

theorem ref_cux (n : Fin 8194) (h : Fin 512) :
    val_main_v24 (F := Ideal) a0 a1 a3 a4 (ix3 b n h) = cux a0 a1 a3 a4 b ⟨n.val + 6, by omega⟩ h := by
  unfold cux
  by_cases hn : n.val < 2
  · rw [dif_pos (by show n.val + 6 < 8; omega)]
    refine (show _ = val_main_v23 (F := Ideal) a1 (ix3 b ⟨n.val, hn⟩ h) from ?_).trans ?_
    · pointwise [val_main_v24]
      rw [dif_pos hn]
    · pointwise [val_main_v23, val_main_v22]
      exact congrArg (fun i => a1 (ix2 i h)) (Fin.ext (Nat.add_comm _ _))
  · rw [dif_neg (by show ¬ n.val + 6 < 8; omega)]
    pointwise [val_main_v24]
    rw [dif_neg hn]
    exact congrArg (fun i => val_main_v21 (F := Ideal) a0 a3 a4 (ix3 b i h)) (Fin.ext (by show n.val - 2 = n.val + 6 - 8; omega))

theorem ref_qkx (n : Fin 8195) (h : Fin 1536) :
    val_main_v63 (F := Ideal) a0 a2 a3 a4 (ix3 b n h) = qkx a0 a2 a3 a4 b ⟨n.val + 5, by omega⟩ h := by
  unfold qkx
  by_cases hn : n.val < 3
  · rw [dif_pos (by show n.val + 5 < 8; omega)]
    refine (show _ = val_main_v62 (F := Ideal) a2 (ix3 b ⟨n.val, hn⟩ h) from ?_).trans ?_
    · pointwise [val_main_v63]
      rw [dif_pos hn]
    · pointwise [val_main_v62, val_main_v61]
      exact congrArg (fun i => a2 (ix2 i h)) (Fin.ext (Nat.add_comm _ _))
  · rw [dif_neg (by show ¬ n.val + 5 < 8; omega)]
    pointwise [val_main_v63]
    rw [dif_neg hn]
    exact congrArg (fun i => val_main_v17 (F := Ideal) a0 a3 a4 (ix3 b i h)) (Fin.ext (by show n.val - 3 = n.val + 5 - 8; omega))

theorem ref_ya0 (h : Fin 512) :
    val_main_v45 (F := Ideal) a0 a1 a3 a4 a5 (ix3 b l h)
      = val_main_v13 (F := Ideal) a0 a3 a4 (ix3 b l ⟨h.val, by omega⟩)
        * (cux a0 a1 a3 a4 b ⟨l.val + 6, by omega⟩ h * a5 (ix2 0 h) + cux a0 a1 a3 a4 b ⟨l.val + 7, by omega⟩ h * a5 (ix2 1 h)
          + cux a0 a1 a3 a4 b ⟨l.val + 8, by omega⟩ h * a5 (ix2 2 h)) := by
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v14]
  simp only [ref_cux, show 1 + l.val + 6 = l.val + 7 from by omega, show 2 + l.val + 6 = l.val + 8 from by omega]

theorem ref_c0 (h : Fin 1536) :
    val_main_v90 (F := Ideal) a0 a2 a3 a4 a7 (ix3 b l h)
      = qkx a0 a2 a3 a4 b ⟨l.val + 5, by omega⟩ h * a7 (ix2 0 h) + qkx a0 a2 a3 a4 b ⟨l.val + 6, by omega⟩ h * a7 (ix2 1 h)
          + qkx a0 a2 a3 a4 b ⟨l.val + 7, by omega⟩ h * a7 (ix2 2 h) + qkx a0 a2 a3 a4 b ⟨l.val + 8, by omega⟩ h * a7 (ix2 3 h) := by
  pointwise [val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64]
  simp only [ref_qkx, show 1 + l.val + 5 = l.val + 6 from by omega, show 2 + l.val + 5 = l.val + 7 from by omega,
    show 3 + l.val + 5 = l.val + 8 from by omega]

/-- A number times its logistic. -/
def sil (x : EReal) : EReal := x * Ideal.div 1 (1 + Ideal.exp (-x))

/-- The second convolution, through its gate. -/
abbrev cv (h : Fin 1536) : EReal := sil (val_main_v90 (F := Ideal) a0 a2 a3 a4 a7 (ix3 b l h))

theorem ref_sq (h : Fin 512) :
    val_main_v100 (F := Ideal) a0 a2 a3 a4 a7 (ix3 b l h) = cv a0 a2 a3 a4 a7 b l ⟨h.val, by omega⟩ := by
  unfold cv sil
  pointwise [val_main_v100, val_main_v99, val_main_v98, val_main_v97, val_main_v96, val_main_v95, val_main_v94, val_main_v91, val_main_cst_5, val_main_cst_6]

theorem ref_sk (h : Fin 512) :
    val_main_v119 (F := Ideal) a0 a2 a3 a4 a7 (ix3 b l h) = cv a0 a2 a3 a4 a7 b l ⟨512 + h.val, by omega⟩ := by
  unfold cv sil
  pointwise [val_main_v119, val_main_v118, val_main_v117, val_main_v116, val_main_v115, val_main_v114, val_main_v113, val_main_cst_10, val_main_cst_11, val_main_v92]

theorem ref_v (h : Fin 512) :
    val_main_v135 (F := Ideal) a0 a2 a3 a4 a7 (ix3 b l h) = cv a0 a2 a3 a4 a7 b l ⟨1024 + h.val, by omega⟩ := by
  unfold cv sil
  pointwise [val_main_v135, val_main_v134, val_main_v133, val_main_v132, val_main_v131, val_main_v130, val_main_v129, val_main_cst_14, val_main_cst_15, val_main_v93]

theorem ref_z (h : Fin 512) :
    val_main_v18 (F := Ideal) a0 a3 a4 (ix3 b l h)
      = val_main_v13 (F := Ideal) a0 a3 a4 (ix3 b l ⟨3072 + h.val, by omega⟩) := by
  pointwise [val_main_v18]

theorem ref_g (h : Fin 4) :
    val_main_v156 (F := Ideal) a0 a3 a4 a8 a9 (ix3 b l h)
      = -Ideal.exp (a8 (ix1 h)) * (max (val_main_v13 (F := Ideal) a0 a3 a4 (ix3 b l ⟨3584 + h.val, by omega⟩) + a9 (ix1 h)) 0
          + Ideal.log1p (Ideal.exp (-FloatOps.absf (F := Ideal) (φ := .f32)
              (val_main_v13 (F := Ideal) a0 a3 a4 (ix3 b l ⟨3584 + h.val, by omega⟩) + a9 (ix1 h))))) := by
  pointwise [val_main_v156, val_main_v155, val_main_v154, val_main_v153, val_main_v152, val_main_v151, val_main_v150, val_main_v149, val_main_v148, val_main_v147, val_main_v146, val_main_v145, val_main_v144, val_main_v143, val_main_v142, val_main_cst_18, val_main_v19]

theorem ref_beta (h : Fin 4) :
    val_main_v141 (F := Ideal) a0 a3 a4 (ix3 b l h) =
      Ideal.div 1 (1 + Ideal.exp (-val_main_v13 (F := Ideal) a0 a3 a4 (ix3 b l ⟨3588 + h.val, by omega⟩))) := by
  pointwise [val_main_v141, val_main_v140, val_main_v139, val_main_v138, val_main_v137, val_main_v136, val_main_cst_16, val_main_cst_17, val_main_v20]

theorem ref_gb (h : Fin 128) :
    val_main_v158 (F := Ideal) a0 a3 a4 a8 a9 (ix3 b l h)
      = if h4 : h.val < 4 then val_main_v156 (F := Ideal) a0 a3 a4 a8 a9 (ix3 b l ⟨h.val, h4⟩)
        else if h8 : h.val < 8 then val_main_v141 (F := Ideal) a0 a3 a4 (ix3 b l ⟨h.val - 4, by omega⟩)
        else 0 := by
  pointwise [val_main_v158]
  by_cases h4 : h.val < 4
  · rw [dif_pos h4, dif_pos h4]
  · rw [dif_neg h4, dif_neg h4]
    by_cases h8 : h.val < 8
    · rw [dif_pos h8, dif_pos (by omega)]
    · rw [dif_neg h8, dif_neg (by omega)]
      pointwise [val_main_v157, val_main_cst_19]

theorem ref_tcu (i : Fin 8) (h : Fin 512) :
    val_main_v163 (F := Ideal) a0 a3 a4 (ix3 b i h) = val_main_v21 (F := Ideal) a0 a3 a4 (ix3 b ⟨8184 + i.val, by omega⟩ h) := by
  pointwise [val_main_v163]

theorem ref_tqkv (i : Fin 8) (h : Fin 1536) :
    val_main_v164 (F := Ideal) a0 a3 a4 (ix3 b i h) = val_main_v17 (F := Ideal) a0 a3 a4 (ix3 b ⟨8184 + i.val, by omega⟩ h) := by
  pointwise [val_main_v164]

end Cert.Proj

end
-- ==== Proof.ProjNorm.lean ====
/- The projections' reference, its rows over the root of the mean square of a group, and of the sum of squares of a head. -/
module

public import proofs.«01_k».proof.Proof.ProjRef
public import Idealize.ShloMosaic.Lib.Pointwise

@[expose] public section

set_option maxRecDepth 16384

noncomputable section

namespace Cert.Proj

open Idealize.ShloMosaic Idealize.SL.Sem Cert.Reference2Ideal Cert.Reference2Ideal.Gen Cert.Reference2Ideal.Read

variable (a0 : FVec Ideal S2x8192x1024 .f32) (a1 : FVec Ideal S8x512 .f32) (a2 : FVec Ideal S8x1536 .f32)
  (a3 : FVec Ideal S1024 .f32) (a4 : FVec Ideal S1024x3592 .f32) (a5 : FVec Ideal S3x512 .f32) (a6 : FVec Ideal S512 .f32)
  (a7 : FVec Ideal S4x1536 .f32) (a8 a9 : FVec Ideal S4 .f32) (b : Fin 2) (l : Fin 8192)

theorem ref_q_split (h : Fin 512) : idx_main_v161 (ix3 b l h) = ix4 b l ⟨h.val / 128, by omega⟩ ⟨h.val % 128, by omega⟩ := by
  funext a
  match a with
  | ⟨0, _⟩ => exact Fin.ext (by show ((b.val * 8192 + l.val) * 512 + h.val) / 4194304 = b.val; omega)
  | ⟨1, _⟩ => exact Fin.ext (by show ((b.val * 8192 + l.val) * 512 + h.val) / 512 % 8192 = l.val; omega)
  | ⟨2, _⟩ => exact Fin.ext (by show ((b.val * 8192 + l.val) * 512 + h.val) / 128 % 4 = h.val / 128; omega)
  | ⟨3, _⟩ => exact Fin.ext (by show ((b.val * 8192 + l.val) * 512 + h.val) % 128 = h.val % 128; omega)

theorem ref_q_join (n : Fin 4) (d : Fin 128) : idx_main_v101 (ix4 b l n d) = ix3 b l ⟨n.val * 128 + d.val, by omega⟩ := by
  funext a
  match a with
  | ⟨0, _⟩ => exact Fin.ext (by show (((b.val * 8192 + l.val) * 4 + n.val) * 128 + d.val) / 4194304 = b.val; omega)
  | ⟨1, _⟩ => exact Fin.ext (by show (((b.val * 8192 + l.val) * 4 + n.val) * 128 + d.val) / 512 % 8192 = l.val; omega)
  | ⟨2, _⟩ => exact Fin.ext (by show (((b.val * 8192 + l.val) * 4 + n.val) * 128 + d.val) % 512 = n.val * 128 + d.val; omega)

theorem ref_q_head (n : Fin 4) (d : Fin 128) :
    val_main_v101 (F := Ideal) a0 a2 a3 a4 a7 (ix4 b l n d) = cv a0 a2 a3 a4 a7 b l ⟨(n.val * 128 + d.val), by omega⟩ := by
  rw [val_main_v101_apply, ref_q_join]
  exact ref_sq a0 a2 a3 a4 a7 b l _

theorem ref_q_sum (n : Fin 4) (d : Fin 128) :
    val_main_v103 (F := Ideal) a0 a2 a3 a4 a7 (idx_main_v104 (idx_main_v108 (ix4 b l n d)))
      = ∑ x : Fin 128, cv a0 a2 a3 a4 a7 b l ⟨(n.val * 128 + x.val), by omega⟩ * cv a0 a2 a3 a4 a7 b l ⟨(n.val * 128 + x.val), by omega⟩ := by
  rw [val_main_v103_apply, show val_main_cst_7 (F := Ideal) (Shape.Idx.first h_S_) = (0 : EReal) from by pointwise [val_main_cst_7], zero_add]
  refine Finset.sum_congr rfl fun x _ => ?_
  rw [show idx_main_v103 (idx_main_v104 (idx_main_v108 (ix4 b l n d))) x = ix4 b l n x from by
    funext a; match a with | ⟨0, _⟩ => rfl | ⟨1, _⟩ => rfl | ⟨2, _⟩ => rfl | ⟨3, _⟩ => rfl]
  rw [val_main_v102_apply, ref_q_head]
  rfl

theorem ref_q (h : Fin 512) :
    val_main_v161 (F := Ideal) a0 a2 a3 a4 a7 (ix3 b l h)
      = cv a0 a2 a3 a4 a7 b l ⟨h.val, by omega⟩
        * Ideal.rsqrt ((∑ x : Fin 128, cv a0 a2 a3 a4 a7 b l ⟨(h.val / 128 * 128 + x.val), by omega⟩
            * cv a0 a2 a3 a4 a7 b l ⟨(h.val / 128 * 128 + x.val), by omega⟩) + Ideal.ofBits FTy.f32 897988541#32)
        * Ideal.rsqrt (Ideal.ofBits FTy.f32 1124073472#32) := by
  rw [val_main_v161_apply, ref_q_split, val_main_v112_apply, val_main_v109_apply, val_main_v108_apply, val_main_v107_apply, val_main_v106_apply, val_main_v104_apply, ref_q_sum, ref_q_head, val_main_v105_apply, val_main_v111_apply, val_main_v110_apply]
  have e : (⟨(h.val / 128 * 128 + h.val % 128), by omega⟩ : Fin 1536) = ⟨h.val, by omega⟩ := Fin.ext (by show (h.val / 128 * 128 + h.val % 128) = h.val; omega)
  rw [e]
  rfl

theorem ref_k_split (h : Fin 512) : idx_main_v162 (ix3 b l h) = ix4 b l ⟨h.val / 128, by omega⟩ ⟨h.val % 128, by omega⟩ := by
  funext a
  match a with
  | ⟨0, _⟩ => exact Fin.ext (by show ((b.val * 8192 + l.val) * 512 + h.val) / 4194304 = b.val; omega)
  | ⟨1, _⟩ => exact Fin.ext (by show ((b.val * 8192 + l.val) * 512 + h.val) / 512 % 8192 = l.val; omega)
  | ⟨2, _⟩ => exact Fin.ext (by show ((b.val * 8192 + l.val) * 512 + h.val) / 128 % 4 = h.val / 128; omega)
  | ⟨3, _⟩ => exact Fin.ext (by show ((b.val * 8192 + l.val) * 512 + h.val) % 128 = h.val % 128; omega)

theorem ref_k_join (n : Fin 4) (d : Fin 128) : idx_main_v120 (ix4 b l n d) = ix3 b l ⟨n.val * 128 + d.val, by omega⟩ := by
  funext a
  match a with
  | ⟨0, _⟩ => exact Fin.ext (by show (((b.val * 8192 + l.val) * 4 + n.val) * 128 + d.val) / 4194304 = b.val; omega)
  | ⟨1, _⟩ => exact Fin.ext (by show (((b.val * 8192 + l.val) * 4 + n.val) * 128 + d.val) / 512 % 8192 = l.val; omega)
  | ⟨2, _⟩ => exact Fin.ext (by show (((b.val * 8192 + l.val) * 4 + n.val) * 128 + d.val) % 512 = n.val * 128 + d.val; omega)

theorem ref_k_head (n : Fin 4) (d : Fin 128) :
    val_main_v120 (F := Ideal) a0 a2 a3 a4 a7 (ix4 b l n d) = cv a0 a2 a3 a4 a7 b l ⟨512 + (n.val * 128 + d.val), by omega⟩ := by
  rw [val_main_v120_apply, ref_k_join]
  exact ref_sk a0 a2 a3 a4 a7 b l _

theorem ref_k_sum (n : Fin 4) (d : Fin 128) :
    val_main_v122 (F := Ideal) a0 a2 a3 a4 a7 (idx_main_v123 (idx_main_v127 (ix4 b l n d)))
      = ∑ x : Fin 128, cv a0 a2 a3 a4 a7 b l ⟨512 + (n.val * 128 + x.val), by omega⟩ * cv a0 a2 a3 a4 a7 b l ⟨512 + (n.val * 128 + x.val), by omega⟩ := by
  rw [val_main_v122_apply, show val_main_cst_12 (F := Ideal) (Shape.Idx.first h_S_) = (0 : EReal) from by pointwise [val_main_cst_12], zero_add]
  refine Finset.sum_congr rfl fun x _ => ?_
  rw [show idx_main_v122 (idx_main_v123 (idx_main_v127 (ix4 b l n d))) x = ix4 b l n x from by
    funext a; match a with | ⟨0, _⟩ => rfl | ⟨1, _⟩ => rfl | ⟨2, _⟩ => rfl | ⟨3, _⟩ => rfl]
  rw [val_main_v121_apply, ref_k_head]
  rfl

theorem ref_k (h : Fin 512) :
    val_main_v162 (F := Ideal) a0 a2 a3 a4 a7 (ix3 b l h)
      = cv a0 a2 a3 a4 a7 b l ⟨512 + h.val, by omega⟩
        * Ideal.rsqrt ((∑ x : Fin 128, cv a0 a2 a3 a4 a7 b l ⟨512 + (h.val / 128 * 128 + x.val), by omega⟩
            * cv a0 a2 a3 a4 a7 b l ⟨512 + (h.val / 128 * 128 + x.val), by omega⟩) + Ideal.ofBits FTy.f32 897988541#32) := by
  rw [val_main_v162_apply, ref_k_split, val_main_v128_apply, val_main_v127_apply, val_main_v126_apply, val_main_v125_apply, val_main_v123_apply, ref_k_sum, ref_k_head, val_main_v124_apply]
  have e : (⟨512 + (h.val / 128 * 128 + h.val % 128), by omega⟩ : Fin 1536) = ⟨512 + h.val, by omega⟩ := Fin.ext (by show 512 + (h.val / 128 * 128 + h.val % 128) = 512 + h.val; omega)
  rw [e]
  rfl

theorem ya_split (h : Fin 512) : idx_main_v159 (ix3 b l h) = ix4 b l ⟨h.val / 64, by omega⟩ ⟨h.val % 64, by omega⟩ := by
  funext a
  match a with
  | ⟨0, _⟩ => exact Fin.ext (by show ((b.val * 8192 + l.val) * 512 + h.val) / 4194304 = b.val; omega)
  | ⟨1, _⟩ => exact Fin.ext (by show ((b.val * 8192 + l.val) * 512 + h.val) / 512 % 8192 = l.val; omega)
  | ⟨2, _⟩ => exact Fin.ext (by show ((b.val * 8192 + l.val) * 512 + h.val) / 64 % 8 = h.val / 64; omega)
  | ⟨3, _⟩ => exact Fin.ext (by show ((b.val * 8192 + l.val) * 512 + h.val) % 64 = h.val % 64; omega)

theorem ya_join (n : Fin 8) (d : Fin 64) : idx_main_v46 (ix4 b l n d) = ix3 b l ⟨n.val * 64 + d.val, by omega⟩ := by
  funext a
  match a with
  | ⟨0, _⟩ => exact Fin.ext (by show (((b.val * 8192 + l.val) * 8 + n.val) * 64 + d.val) / 4194304 = b.val; omega)
  | ⟨1, _⟩ => exact Fin.ext (by show (((b.val * 8192 + l.val) * 8 + n.val) * 64 + d.val) / 512 % 8192 = l.val; omega)
  | ⟨2, _⟩ => exact Fin.ext (by show (((b.val * 8192 + l.val) * 8 + n.val) * 64 + d.val) % 512 = n.val * 64 + d.val; omega)

theorem ya_head (n : Fin 8) (d : Fin 64) :
    val_main_v46 (F := Ideal) a0 a1 a3 a4 a5 (ix4 b l n d) = val_main_v45 (F := Ideal) a0 a1 a3 a4 a5 (ix3 b l ⟨n.val * 64 + d.val, by omega⟩) := by
  rw [val_main_v46_apply, ya_join]

theorem ya_sum (n : Fin 8) (d : Fin 64) :
    val_main_v49 (F := Ideal) a0 a1 a3 a4 a5 (idx_main_v50 (idx_main_v56 (ix4 b l n d)))
      = ∑ x : Fin 64, val_main_v45 (F := Ideal) a0 a1 a3 a4 a5 (ix3 b l ⟨n.val * 64 + x.val, by omega⟩)
          * val_main_v45 (F := Ideal) a0 a1 a3 a4 a5 (ix3 b l ⟨n.val * 64 + x.val, by omega⟩) := by
  rw [val_main_v49_apply, show val_main_cst_2 (F := Ideal) (Shape.Idx.first h_S_) = (0 : EReal) from by pointwise [val_main_cst_2], zero_add]
  refine Finset.sum_congr rfl fun x _ => ?_
  rw [show idx_main_v49 (idx_main_v50 (idx_main_v56 (ix4 b l n d))) x = ix4 b l n x from by
    funext a; match a with | ⟨0, _⟩ => rfl | ⟨1, _⟩ => rfl | ⟨2, _⟩ => rfl | ⟨3, _⟩ => rfl]
  rw [val_main_v48_apply, ya_head]
  rfl

/-- A gated convolution row over the root of the mean square of its group of sixty-four lanes. -/
theorem ref_ya (h : Fin 512) :
    val_main_v160 (F := Ideal) a0 a1 a3 a4 a5 a6 (ix3 b l h)
      = val_main_v45 (F := Ideal) a0 a1 a3 a4 a5 (ix3 b l h)
        * Ideal.rsqrt (Ideal.div (∑ x : Fin 64, val_main_v45 (F := Ideal) a0 a1 a3 a4 a5 (ix3 b l ⟨h.val / 64 * 64 + x.val, by omega⟩)
            * val_main_v45 (F := Ideal) a0 a1 a3 a4 a5 (ix3 b l ⟨h.val / 64 * 64 + x.val, by omega⟩)) (Ideal.ofBits FTy.f32 1115684864#32)
          + Ideal.ofBits FTy.f32 897988541#32) * a6 (ix1 h) := by
  rw [val_main_v160_apply, val_main_v159_apply, ya_split, val_main_v60_apply, val_main_v57_apply, val_main_v56_apply, val_main_v55_apply, val_main_v54_apply,
    val_main_v52_apply, val_main_v50_apply, ya_sum, ya_head, val_main_v59_apply, val_main_v58_apply, val_main_v47_apply, val_main_v51_apply, val_main_v53_apply]
  have e : (⟨h.val / 64 * 64 + h.val % 64, by omega⟩ : Fin 512) = h := Fin.ext (by show h.val / 64 * 64 + h.val % 64 = h.val; omega)
  rw [show idx_main_v47 (idx_main_v58 (idx_main_v59 (ix4 b l (⟨h.val / 64, by omega⟩ : Fin 8) (⟨h.val % 64, by omega⟩ : Fin 64)))) = ix1 h from by
    funext a; match a with | ⟨0, _⟩ => exact e, e]
  rfl

end Cert.Proj

end
-- ==== Proof.ProjKer.lean ====
/- One token's rows of the projections' block against the reference's rows, from what the block's inputs hold. -/
module

public import proofs.«01_k».proof.Proof.Gen.Kernel2Ideal.Skeleton
public import proofs.«01_k».proof.Proof.ProjNorm

@[expose] public section

set_option maxRecDepth 16384

noncomputable section

namespace Cert.Proj

open Idealize.ShloMosaic Idealize.SL.Sem Cert.Kernel2Ideal Cert.Kernel2Ideal.Gen

/-- Row `r` of the block `x` holds token `l` of sequence `b`, and the weights' blocks hold the columns of the input weights. -/
structure Holds (x : Vec Ideal S1x512x1024 .f32) (nw : Vec Ideal S1x1024 .f32) (wa wq : Vec Ideal S1024x1536 .bf16)
    (wz : Vec Ideal S1024x512 .bf16) (wab : Vec Ideal S1024x128 .bf16) (r : Fin 512) (b : Fin 2) (l : Fin 8192)
    (a0 : FVec Ideal S2x8192x1024 .f32) (a3 : FVec Ideal S1024 .f32) (a4 : FVec Ideal S1024x3592 .f32) : Prop where
  h0 : ∀ c : Fin 1024, x (ix3 0 r c) = a0 (ix3 b l c)
  h3 : ∀ c : Fin 1024, nw (ix2 0 c) = a3 (ix1 c)
  h4 : ∀ (k : Fin 1024) (j : Fin 1536), wa (ix2 k j) = a4 (ix2 k ⟨j.val, by omega⟩)
  h5 : ∀ (k : Fin 1024) (j : Fin 1536), wq (ix2 k j) = a4 (ix2 k ⟨1536 + j.val, by omega⟩)
  h6 : ∀ (k : Fin 1024) (j : Fin 512), wz (ix2 k j) = a4 (ix2 k ⟨3072 + j.val, by omega⟩)
  h7 : ∀ (k : Fin 1024) (j : Fin 8), wab (ix2 k ⟨j.val, by omega⟩) = a4 (ix2 k ⟨3584 + j.val, by omega⟩)

variable {x : Vec Ideal S1x512x1024 .f32} {nw : Vec Ideal S1x1024 .f32} {wa wq : Vec Ideal S1024x1536 .bf16}
    {wz : Vec Ideal S1024x512 .bf16} {wab : Vec Ideal S1024x128 .bf16} {r : Fin 512} {b : Fin 2} {l : Fin 8192}
    {a0 : FVec Ideal S2x8192x1024 .f32} {a1 : FVec Ideal S8x512 .f32} {a2 : FVec Ideal S8x1536 .f32}
    {a3 : FVec Ideal S1024 .f32} {a4 : FVec Ideal S1024x3592 .f32}
    {a5 : FVec Ideal S3x512 .f32} {a6 : FVec Ideal S512 .f32} {a7 : FVec Ideal S4x1536 .f32} {a8 a9 : FVec Ideal S4 .f32}

theorem xn_row (H : Holds x nw wa wq wz wab r b l a0 a3 a4) (c : Fin 1024) :
    k0_pay4 (F := Ideal) x nw (ix2 r c) = Cert.Reference2Ideal.Read.val_main_v12 (F := Ideal) a0 a3 (ix3 b l c) := by
  rw [ref_xn]
  pointwise [k0_pay4]
  simp only [H.h0, H.h3]

theorem pa_row (H : Holds x nw wa wq wz wab r b l a0 a3 a4) (j : Fin 1536) :
    k0_pay5 (F := Ideal) x nw wa (ix2 r j) = Cert.Reference2Ideal.Read.val_main_v13 (F := Ideal) a0 a3 a4 (ix3 b l ⟨j.val, by omega⟩) := by
  rw [ref_proj]
  pointwise [k0_pay5]
  simp only [xn_row H, H.h4]

theorem pa0_row (H : Holds x nw wa wq wz wab r b l a0 a3 a4) (j : Fin 512) :
    k0_pay6 (F := Ideal) x nw wa (ix2 r j) = Cert.Reference2Ideal.Read.val_main_v13 (F := Ideal) a0 a3 a4 (ix3 b l ⟨j.val, by omega⟩) := by
  pointwise [k0_pay6]
  rw [pa_row H]

theorem cu_row (H : Holds x nw wa wq wz wab r b l a0 a3 a4) (j : Fin 512) :
    k0_pay7 (F := Ideal) x nw wa (ix2 r j) = Cert.Reference2Ideal.Read.val_main_v21 (F := Ideal) a0 a3 a4 (ix3 b l j) := by
  rw [ref_cu]
  pointwise [k0_pay7]
  rw [pa_row H, pa_row H]

theorem cus_row (H : Holds x nw wa wq wz wab r b l a0 a3 a4) (j : Fin 512) :
    k0_pay8 (F := Ideal) x nw wa (ix2 r j) = Cert.Reference2Ideal.Read.val_main_v21 (F := Ideal) a0 a3 a4 (ix3 b l j) := by
  rw [← cu_row H]
  pointwise [k0_pay8]

theorem pq_row (H : Holds x nw wa wq wz wab r b l a0 a3 a4) (j : Fin 1536) :
    k0_pay13 (F := Ideal) (k0_pay4 x nw) wq (ix2 r j) = Cert.Reference2Ideal.Read.val_main_v17 (F := Ideal) a0 a3 a4 (ix3 b l j) := by
  rw [ref_qkv, ref_proj]
  pointwise [k0_pay13]
  simp only [xn_row H, H.h5]

theorem pqs_row (H : Holds x nw wa wq wz wab r b l a0 a3 a4) (j : Fin 1536) :
    k0_pay14 (F := Ideal) (k0_pay4 x nw) wq (ix2 r j) = Cert.Reference2Ideal.Read.val_main_v17 (F := Ideal) a0 a3 a4 (ix3 b l j) := by
  rw [← pq_row H]
  pointwise [k0_pay14]

theorem z_row (H : Holds x nw wa wq wz wab r b l a0 a3 a4) (j : Fin 512) :
    k0_pay34 (F := Ideal) (k0_pay4 x nw) wz (ix3 0 r j) = Cert.Reference2Ideal.Read.val_main_v18 (F := Ideal) a0 a3 a4 (ix3 b l j) := by
  rw [ref_z, ref_proj]
  pointwise [k0_pay34]
  simp only [xn_row H, H.h6]

theorem ab_row (H : Holds x nw wa wq wz wab r b l a0 a3 a4) (j : Fin 8) :
    k0_pay35 (F := Ideal) (k0_pay4 x nw) wab (ix2 r ⟨j.val, by omega⟩)
      = Cert.Reference2Ideal.Read.val_main_v13 (F := Ideal) a0 a3 a4 (ix3 b l ⟨3584 + j.val, by omega⟩) := by
  rw [ref_proj]
  pointwise [k0_pay35]
  simp only [xn_row H, H.h7]

/-! ### The second convolution -/

theorem c_row (H : Holds x nw wa wq wz wab r b l a0 a3 a4) {s5 s6 s7 : Vec Ideal S512x1536 .f32} {w0 w1 w2 w3 : Vec Ideal S1x1536 .f32}
    (h5 : ∀ h, s5 (ix2 r h) = qkx a0 a2 a3 a4 b ⟨l.val + 5, by omega⟩ h)
    (h6 : ∀ h, s6 (ix2 r h) = qkx a0 a2 a3 a4 b ⟨l.val + 6, by omega⟩ h)
    (h7 : ∀ h, s7 (ix2 r h) = qkx a0 a2 a3 a4 b ⟨l.val + 7, by omega⟩ h)
    (g0 : ∀ h, w0 (ix2 0 h) = a7 (ix2 0 h)) (g1 : ∀ h, w1 (ix2 0 h) = a7 (ix2 1 h))
    (g2 : ∀ h, w2 (ix2 0 h) = a7 (ix2 2 h)) (g3 : ∀ h, w3 (ix2 0 h) = a7 (ix2 3 h)) (h : Fin 1536) :
    k0_pay15 (F := Ideal) (k0_pay4 x nw) wq s5 w0 s6 w1 s7 w2 w3 (ix2 r h)
      = Cert.Reference2Ideal.Read.val_main_v90 (F := Ideal) a0 a2 a3 a4 a7 (ix3 b l h) := by
  rw [ref_c0]
  pointwise [k0_pay15]
  simp only [h5, h6, h7, g0, g1, g2, g3, pq_row H]
  congr 2

/-- The gate's argument and its logistic, at the row. -/
structure HoldsC (c s : Vec Ideal S512x1536 .f32) (r : Fin 512) (b : Fin 2) (l : Fin 8192)
    (a0 : FVec Ideal S2x8192x1024 .f32) (a2 : FVec Ideal S8x1536 .f32) (a3 : FVec Ideal S1024 .f32) (a4 : FVec Ideal S1024x3592 .f32)
    (a7 : FVec Ideal S4x1536 .f32) : Prop where
  hc : ∀ h, k0_pay17 (F := Ideal) c s (ix2 r h) = cv a0 a2 a3 a4 a7 b l h

theorem holdsC (H : Holds x nw wa wq wz wab r b l a0 a3 a4) {s5 s6 s7 : Vec Ideal S512x1536 .f32} {w0 w1 w2 w3 : Vec Ideal S1x1536 .f32}
    (h5 : ∀ h, s5 (ix2 r h) = qkx a0 a2 a3 a4 b ⟨l.val + 5, by omega⟩ h)
    (h6 : ∀ h, s6 (ix2 r h) = qkx a0 a2 a3 a4 b ⟨l.val + 6, by omega⟩ h)
    (h7 : ∀ h, s7 (ix2 r h) = qkx a0 a2 a3 a4 b ⟨l.val + 7, by omega⟩ h)
    (g0 : ∀ h, w0 (ix2 0 h) = a7 (ix2 0 h)) (g1 : ∀ h, w1 (ix2 0 h) = a7 (ix2 1 h))
    (g2 : ∀ h, w2 (ix2 0 h) = a7 (ix2 2 h)) (g3 : ∀ h, w3 (ix2 0 h) = a7 (ix2 3 h)) :
    HoldsC (k0_pay15 (F := Ideal) (k0_pay4 x nw) wq s5 w0 s6 w1 s7 w2 w3)
      (k0_pay16 (F := Ideal) (k0_pay4 x nw) wq s5 w0 s6 w1 s7 w2 w3) r b l a0 a2 a3 a4 a7 where
  hc h := by
    pointwise [k0_pay17, k0_pay16]
    rw [zero_sub, c_row H h5 h6 h7 g0 g1 g2 g3]
    rfl

/-- The scale of the first heads' rows. -/
theorem named_s : Named.named (F := Ideal) κ "s" (φ := .f32) 0x3DB504F3#32 = Ideal.rsqrt (Ideal.ofBits FTy.f32 1124073472#32) := by
  rw [IdealRules.named_const.ideal_named_scalar κ "s" _ (((Real.sqrt 128)⁻¹ : ℝ) : EReal) rfl,
    show Ideal.ofBits FTy.f32 1124073472#32 = ((128 : ℝ) : EReal) from by
      simp [Ideal.ofBits, Ideal.ieee, -EReal.coe_mul]; norm_num]
  show _ = (if (128 : ℝ) < 0 then ⊥ else if (128 : ℝ) = 0 then ⊤ else (((Real.sqrt 128)⁻¹ : ℝ) : EReal))
  rw [if_neg (by norm_num), if_neg (by norm_num)]

section
variable {c s : Vec Ideal S512x1536 .f32} (C : HoldsC c s r b l a0 a2 a3 a4 a7) (d : Fin 128)
include C

/-- A head of the first kind, as its row is stored. -/
abbrev qh (a0 : FVec Ideal S2x8192x1024 .f32) (a2 : FVec Ideal S8x1536 .f32) (a3 : FVec Ideal S1024 .f32) (a4 : FVec Ideal S1024x3592 .f32)
    (a7 : FVec Ideal S4x1536 .f32) (b : Fin 2) (l : Fin 8192) (n : Fin 4) (d : Fin 128) : EReal :=
  cv a0 a2 a3 a4 a7 b l ⟨n.val * 128 + d.val, by omega⟩
    * Ideal.rsqrt ((∑ y : Fin 128, cv a0 a2 a3 a4 a7 b l ⟨n.val * 128 + y.val, by omega⟩
        * cv a0 a2 a3 a4 a7 b l ⟨n.val * 128 + y.val, by omega⟩) + Ideal.ofBits FTy.f32 897988541#32)
    * Ideal.rsqrt (Ideal.ofBits FTy.f32 1124073472#32)

/-- A head of the second kind, as its row is stored. -/
abbrev kh (a0 : FVec Ideal S2x8192x1024 .f32) (a2 : FVec Ideal S8x1536 .f32) (a3 : FVec Ideal S1024 .f32) (a4 : FVec Ideal S1024x3592 .f32)
    (a7 : FVec Ideal S4x1536 .f32) (b : Fin 2) (l : Fin 8192) (n : Fin 4) (d : Fin 128) : EReal :=
  cv a0 a2 a3 a4 a7 b l ⟨512 + (n.val * 128 + d.val), by omega⟩
    * Ideal.rsqrt ((∑ y : Fin 128, cv a0 a2 a3 a4 a7 b l ⟨512 + (n.val * 128 + y.val), by omega⟩
        * cv a0 a2 a3 a4 a7 b l ⟨512 + (n.val * 128 + y.val), by omega⟩) + Ideal.ofBits FTy.f32 897988541#32)

theorem q0_row : k0_pay20 (F := Ideal) c s (ix3 0 r d) = qh a0 a2 a3 a4 a7 b l 0 d := by
  pointwise [k0_pay20]
  simp only [named_s, C.hc]
  simp [qh]

theorem q1_row : k0_pay25 (F := Ideal) (k0_pay22 c s) (k0_pay24 c s) (ix3 0 r d) = qh a0 a2 a3 a4 a7 b l 1 d := by
  pointwise [k0_pay25, k0_pay24, k0_pay22]
  simp only [named_s, C.hc]
  simp [qh]

theorem q2_row : k0_pay28 (F := Ideal) (k0_pay17 c s) (ix3 0 r d) = qh a0 a2 a3 a4 a7 b l 2 d := by
  pointwise [k0_pay28]
  simp only [named_s, C.hc]
  simp [qh]

theorem q3_row : k0_pay31 (F := Ideal) (k0_pay17 c s) (ix3 0 r d) = qh a0 a2 a3 a4 a7 b l 3 d := by
  pointwise [k0_pay31]
  simp only [named_s, C.hc]
  simp [qh]

theorem k0_row : k0_pay21 (F := Ideal) c s (ix3 0 r d) = kh a0 a2 a3 a4 a7 b l 0 d := by
  pointwise [k0_pay21]
  simp only [C.hc]
  simp [kh, ← Nat.add_assoc]

theorem k1_row : k0_pay26 (F := Ideal) (k0_pay23 c s) (ix3 0 r d) = kh a0 a2 a3 a4 a7 b l 1 d := by
  pointwise [k0_pay26, k0_pay23]
  simp only [C.hc]
  simp [kh, ← Nat.add_assoc]

theorem k2_row : k0_pay30 (F := Ideal) (k0_pay27 (k0_pay17 c s)) (k0_pay29 (k0_pay17 c s)) (ix3 0 r d) = kh a0 a2 a3 a4 a7 b l 2 d := by
  pointwise [k0_pay30, k0_pay29, k0_pay27]
  simp only [C.hc]
  simp [kh, ← Nat.add_assoc]

theorem k3_row : k0_pay32 (F := Ideal) (k0_pay17 c s) (ix3 0 r d) = kh a0 a2 a3 a4 a7 b l 3 d := by
  pointwise [k0_pay32]
  simp only [C.hc]
  simp [kh, ← Nat.add_assoc]

theorem v_row (h : Fin 512) : k0_pay33 (F := Ideal) (k0_pay17 c s) (ix3 0 r h)
      = Cert.Reference2Ideal.Read.val_main_v135 (F := Ideal) a0 a2 a3 a4 a7 (ix3 b l h) := by
  rw [ref_v]
  pointwise [k0_pay33]
  rw [C.hc]

end

/-! ### The decay and its rate -/

theorem slt4 : ∀ h : Fin 128, IntOp.cmpi .slt (BitVec.ofNat 32 h.val) 4#32 = if h.val < 4 then 1#1 else 0#1 := by decide +kernel
theorem slt8 : ∀ h : Fin 128, IntOp.cmpi .slt (BitVec.ofNat 32 h.val) 8#32 = if h.val < 8 then 1#1 else 0#1 := by decide +kernel
theorem sel_one {α : Type} (u v : α) : Scalar.select 1#1 u v = u := rfl
theorem sel_zero {α : Type} (u v : α) : Scalar.select 0#1 u v = v := rfl

theorem gb_row (H : Holds x nw wa wq wz wab r b l a0 a3 a4) {dt al : Vec Ideal S1x128 .f32}
    (hd : ∀ h : Fin 4, dt (ix2 0 ⟨h.val, by omega⟩) = a9 (ix1 h)) (hal : ∀ h : Fin 4, al (ix2 0 ⟨h.val, by omega⟩) = a8 (ix1 h)) (h : Fin 128) :
    k0_pay1 (F := Ideal) (k0_pay36 (k0_pay4 x nw) wab dt al) k0_pay37 k0_pay38 (k0_pay39 (k0_pay4 x nw) wab) (ix3 0 r h)
      = Cert.Reference2Ideal.Read.val_main_v158 (F := Ideal) a0 a3 a4 a8 a9 (ix3 b l h) := by
  rw [ref_gb]
  by_cases h4 : h.val < 4
  · rw [dif_pos h4, ref_g]
    pointwise [k0_pay1, k0_pay36, k0_pay37, k0_pay38, k0_pay39]
    have e1 : dt (ix2 0 h) = a9 (ix1 ⟨h.val, h4⟩) := hd ⟨h.val, h4⟩
    have e2 : al (ix2 0 h) = a8 (ix1 ⟨h.val, h4⟩) := hal ⟨h.val, h4⟩
    have e3 : k0_pay35 (F := Ideal) (k0_pay4 x nw) wab (ix2 r h)
      = Cert.Reference2Ideal.Read.val_main_v13 (F := Ideal) a0 a3 a4 (ix3 b l ⟨3584 + h.val, by omega⟩) := ab_row H ⟨h.val, by omega⟩
    rw [slt4, if_pos h4, sel_one, e1, e2, e3, zero_sub, zero_sub]
  · rw [dif_neg h4]
    by_cases h8 : h.val < 8
    · rw [dif_pos h8, ref_beta]
      pointwise [k0_pay1, k0_pay36, k0_pay37, k0_pay38, k0_pay39]
      have e3 : k0_pay35 (F := Ideal) (k0_pay4 x nw) wab (ix2 r h)
        = Cert.Reference2Ideal.Read.val_main_v13 (F := Ideal) a0 a3 a4 (ix3 b l ⟨3588 + (h.val - 4), by omega⟩) :=
        (ab_row H ⟨h.val, h8⟩).trans (congrArg (fun i => Cert.Reference2Ideal.Read.val_main_v13 (F := Ideal) a0 a3 a4 (ix3 b l i))
          (Fin.ext (by show 3584 + h.val = 3588 + (h.val - 4); omega)))
      rw [slt4, if_neg h4, sel_zero, slt8, if_pos h8, sel_one, e3, zero_sub]
    · rw [dif_neg h8]
      pointwise [k0_pay1, k0_pay36, k0_pay37, k0_pay38, k0_pay39]
      rw [slt4, if_neg h4, sel_zero, slt8, if_neg h8, sel_zero]

end Cert.Proj

end
-- ==== Proof.ProjYa.lean ====
/- The first convolution's row through its norm over groups of 64, where the row is real. -/
module

public import proofs.«01_k».proof.Proof.ProjKer
public import proofs.«01_k».proof.Proof.Real

@[expose] public section

set_option maxRecDepth 16384

noncomputable section

namespace Cert.Proj

open Idealize.ShloMosaic Idealize.SL.Sem Cert.Kernel2Ideal Cert.Kernel2Ideal.Gen
open Cert.Route (IsReal)

/-- A weighted sum that keeps one group of 64 and weighs it by a sixty-fourth is that group's mean. -/
theorem grp_sum (f : Fin 512 → ℝ) (c : Fin 512) :
    ∑ j : Fin 512, f j * (if j.val / 64 = c.val / 64 then (1 / 64 : ℝ) else 0)
      = (∑ x : Fin 64, f ⟨c.val / 64 * 64 + x.val, by omega⟩) / 64 := by
  have key : ∀ F : Fin 512 → ℝ, ∑ j, F j = ∑ n : Fin 8, ∑ x : Fin 64, F ⟨n.val * 64 + x.val, by omega⟩ := fun F => by
    rw [← Fintype.sum_prod_type' (fun (n : Fin 8) (x : Fin 64) => F ⟨n.val * 64 + x.val, by omega⟩)]
    exact (Fintype.sum_equiv (finProdFinEquiv (m := 8) (n := 64)) _ F (fun p => congrArg F (Fin.ext (by
      show p.1.val * 64 + p.2.val = p.2.val + 64 * p.1.val; omega)))).symm
  rw [key, Finset.sum_eq_single (⟨c.val / 64, by omega⟩ : Fin 8), Finset.sum_div]
  · refine Finset.sum_congr rfl fun x _ => ?_
    rw [if_pos (by show (c.val / 64 * 64 + x.val) / 64 = c.val / 64; omega), mul_one_div]
  · intro n _ hn
    refine Finset.sum_eq_zero fun x _ => ?_
    rw [if_neg, mul_zero]
    show ¬ (n.val * 64 + x.val) / 64 = c.val / 64
    intro h
    exact hn (Fin.ext (by show n.val = c.val / 64; omega))
  · intro h; exact absurd (Finset.mem_univ _) h

/-- The same of real rows among the extended reals. -/
theorem grp_mean (f : Fin 512 → EReal) (hf : ∀ j, IsReal (f j)) (c : Fin 512) :
    ∑ j : Fin 512, f j * (if j.val / 64 = c.val / 64 then (((1 / 64 : ℝ)) : EReal) else 0)
      = Ideal.div (∑ x : Fin 64, f ⟨c.val / 64 * 64 + x.val, by omega⟩) (Ideal.ofBits FTy.f32 1115684864#32) := by
  choose g hg using hf
  have e64 : Ideal.ofBits FTy.f32 1115684864#32 = ((64 : ℝ) : EReal) := by
    simp [Ideal.ofBits, Ideal.ieee, -EReal.coe_mul]; norm_num
  have el : ∀ j : Fin 512, f j * (if j.val / 64 = c.val / 64 then (((1 / 64 : ℝ)) : EReal) else 0)
      = ((g j * (if j.val / 64 = c.val / 64 then (1 / 64 : ℝ) else 0) : ℝ) : EReal) := fun j => by
    rw [hg, EReal.coe_mul]
    split <;> rfl
  rw [e64, Finset.sum_congr rfl fun j _ => el j, Cert.Route.sum_coe, grp_sum, Finset.sum_congr rfl fun x _ => hg _, Cert.Route.sum_coe]
  exact (Cert.Route.div_coe _ 64 (by norm_num)).symm

variable {x : Vec Ideal S1x512x1024 .f32} {nw : Vec Ideal S1x1024 .f32} {wa wq : Vec Ideal S1024x1536 .bf16}
    {wz : Vec Ideal S1024x512 .bf16} {wab : Vec Ideal S1024x128 .bf16} {r : Fin 512} {b : Fin 2} {l : Fin 8192}
    {a0 : FVec Ideal S2x8192x1024 .f32} {a1 : FVec Ideal S8x512 .f32}
    {a3 : FVec Ideal S1024 .f32} {a4 : FVec Ideal S1024x3592 .f32} {a5 : FVec Ideal S3x512 .f32} {a6 : FVec Ideal S512 .f32}

theorem y_row (H : Holds x nw wa wq wz wab r b l a0 a3 a4) {s6 s7 : Vec Ideal S512x512 .f32} {w0 w1 w2 : Vec Ideal S1x512 .f32}
    (h6 : ∀ h, s6 (ix2 r h) = cux a0 a1 a3 a4 b ⟨l.val + 6, by omega⟩ h)
    (h7 : ∀ h, s7 (ix2 r h) = cux a0 a1 a3 a4 b ⟨l.val + 7, by omega⟩ h)
    (g0 : ∀ h, w0 (ix2 0 h) = a5 (ix2 0 h)) (g1 : ∀ h, w1 (ix2 0 h) = a5 (ix2 1 h)) (g2 : ∀ h, w2 (ix2 0 h) = a5 (ix2 2 h)) (h : Fin 512) :
    k0_pay6 (F := Ideal) x nw wa (ix2 r h) * (k0_pay9 (F := Ideal) s6 w0 (ix2 r h) + s7 (ix2 r h) * w1 (ix2 0 h)
        + k0_pay7 (F := Ideal) x nw wa (ix2 r h) * w2 (ix2 0 h))
      = Cert.Reference2Ideal.Read.val_main_v45 (F := Ideal) a0 a1 a3 a4 a5 (ix3 b l h) := by
  rw [ref_ya0, pa0_row H, cu_row H, h7, g1, g2]
  have e : k0_pay9 (F := Ideal) s6 w0 (ix2 r h) = s6 (ix2 r h) * w0 (ix2 0 h) := by pointwise [k0_pay9]
  rw [e, h6, g0]
  congr 2

theorem ya_row (H : Holds x nw wa wq wz wab r b l a0 a3 a4) {s6 s7 : Vec Ideal S512x512 .f32} {w0 w1 w2 : Vec Ideal S1x512 .f32}
    {gm : Vec Ideal S512x512 .bf16} {nm : Vec Ideal S1x512 .f32}
    (h6 : ∀ h, s6 (ix2 r h) = cux a0 a1 a3 a4 b ⟨l.val + 6, by omega⟩ h)
    (h7 : ∀ h, s7 (ix2 r h) = cux a0 a1 a3 a4 b ⟨l.val + 7, by omega⟩ h)
    (g0 : ∀ h, w0 (ix2 0 h) = a5 (ix2 0 h)) (g1 : ∀ h, w1 (ix2 0 h) = a5 (ix2 1 h)) (g2 : ∀ h, w2 (ix2 0 h) = a5 (ix2 2 h))
    (hg : ∀ j c : Fin 512, gm (ix2 j c) = if j.val / 64 = c.val / 64 then (((1 / 64 : ℝ)) : EReal) else 0)
    (hn : ∀ h, nm (ix2 0 h) = a6 (ix1 h))
    (q : ∀ h, IsReal (Cert.Reference2Ideal.Read.val_main_v45 (F := Ideal) a0 a1 a3 a4 a5 (ix3 b l h))) (h : Fin 512) :
    k0_pay10 (F := Ideal) (k0_pay6 x nw wa) (k0_pay7 x nw wa) (k0_pay9 s6 w0) s7 w1 w2 gm gm nm (ix3 0 r h)
      = Cert.Reference2Ideal.Read.val_main_v160 (F := Ideal) a0 a1 a3 a4 a5 a6 (ix3 b l h) := by
  rw [ref_ya]
  pointwise [k0_pay10]
  simp only [y_row H h6 h7 g0 g1 g2, hg, hn]
  simp only [fun j => ((q j).mul (q j)).sub_self, zero_mul, Finset.sum_const_zero, add_zero]
  rw [grp_mean (fun j => _) (fun j => (q j).mul (q j)) h]

end Cert.Proj

end
-- ==== Proof.ProjScr.lean ====
/- A scratch of 520 rows: eight rows of history, 512 rows of the block behind them; its loads, eight rows at a time. -/
module

public import Idealize.ShloMosaic.Lib.Pipeline.ValueKit
public import Idealize.ShloMosaic.Lib.Pipeline.ReadBack
public import Idealize.ShloMosaic.Lib.WritesUnit
public import Idealize.ShloMosaic.Lib.Pointwise

@[expose] public section

set_option maxRecDepth 16384

noncomputable section

namespace Cert.Proj

open Idealize.ShloMosaic Idealize.SL.Sem

variable {n : ℕ}

abbrev SS (n : ℕ) : Shape := ⟨2, ![520, n]⟩
abbrev S8 (n : ℕ) : Shape := ⟨2, ![8, n]⟩
abbrev S5 (n : ℕ) : Shape := ⟨2, ![512, n]⟩

/-- The rows of the scratch: the first eight from `q`, the rest from `p`. -/
def rows (q : Fin 8 → Fin n → EReal) (p : Fin 512 → Fin n → EReal) (k : Fin 520) (h : Fin n) : EReal :=
  if hk : k.val < 8 then q ⟨k.val, hk⟩ h else p ⟨k.val - 8, by omega⟩ h

theorem canon_tail (i1 : ∀ a, (![8, 0] : Fin 2 → ℕ) a + (![512, n] : Fin 2 → ℕ) a ≤ (SS n).size a) (p : Vec Ideal (S5 n) .f32)
    (L : List (View.Piece (Elt Ideal) (SS n) .f32)) (k : Fin 520) (h : Fin n) (hk : ¬ k.val < 8) :
    View.canon (Val := Elt Ideal) (s := SS n) (e := .f32) (⟨Rect.unit (s := SS n) ![8, 0] ![512, n] i1, p⟩ :: L) (ix2 k h)
      = p (ix2 ⟨k.val - 8, by omega⟩ h) := by
  have e : (ix2 k h : (SS n).Idx) = (Rect.unit (s := SS n) ![8, 0] ![512, n] i1).emb (ix2 (⟨k.val - 8, by omega⟩ : Fin 512) h) := by
    funext a
    match a with
    | ⟨0, _⟩ => exact Fin.ext (by show k.val = 8 + 1 * (k.val - 8); omega)
    | ⟨1, _⟩ => exact Fin.ext (by show h.val = 0 + 1 * h.val; omega)
  rw [e]
  exact View.canon_cons_emb (Val := Elt Ideal) (Rect.unit (s := SS n) ![8, 0] ![512, n] i1) p L _

theorem canon_skip_tail (i1 : ∀ a, (![8, 0] : Fin 2 → ℕ) a + (![512, n] : Fin 2 → ℕ) a ≤ (SS n).size a) (p : Vec Ideal (S5 n) .f32)
    (L : List (View.Piece (Elt Ideal) (SS n) .f32)) (k : Fin 520) (h : Fin n) (hk : k.val < 8) :
    View.canon (Val := Elt Ideal) (s := SS n) (e := .f32) (⟨Rect.unit (s := SS n) ![8, 0] ![512, n] i1, p⟩ :: L) (ix2 k h)
      = View.canon (Val := Elt Ideal) (s := SS n) (e := .f32) L (ix2 k h) := by
  refine View.canon_cons_of_not_mem _ _ ?_
  rw [Rect.mem_set_unit]
  intro hall
  have h8 : 8 ≤ k.val := (hall 0).1
  omega

theorem canon_head (i0 : ∀ a, (![0, 0] : Fin 2 → ℕ) a + (![8, n] : Fin 2 → ℕ) a ≤ (SS n).size a) (q : Vec Ideal (S8 n) .f32)
    (L : List (View.Piece (Elt Ideal) (SS n) .f32)) (k : Fin 520) (h : Fin n) (hk : k.val < 8) :
    View.canon (Val := Elt Ideal) (s := SS n) (e := .f32) (⟨Rect.unit (s := SS n) ![0, 0] ![8, n] i0, q⟩ :: L) (ix2 k h)
      = q (ix2 ⟨k.val, hk⟩ h) := by
  have e : (ix2 k h : (SS n).Idx) = (Rect.unit (s := SS n) ![0, 0] ![8, n] i0).emb (ix2 (⟨k.val, hk⟩ : Fin 8) h) := by
    funext a
    match a with
    | ⟨0, _⟩ => exact Fin.ext (by show k.val = 0 + 1 * k.val; omega)
    | ⟨1, _⟩ => exact Fin.ext (by show h.val = 0 + 1 * h.val; omega)
  rw [e]
  exact View.canon_cons_emb (Val := Elt Ideal) (Rect.unit (s := SS n) ![0, 0] ![8, n] i0) q L _

/-- The scratch filled from a history: its rows. -/
theorem canon_rows (i1 : ∀ a, (![8, 0] : Fin 2 → ℕ) a + (![512, n] : Fin 2 → ℕ) a ≤ (SS n).size a)
    (i0 : ∀ a, (![0, 0] : Fin 2 → ℕ) a + (![8, n] : Fin 2 → ℕ) a ≤ (SS n).size a) (p : Vec Ideal (S5 n) .f32) (q : Vec Ideal (S8 n) .f32)
    (k : Fin 520) (h : Fin n) :
    View.canon (Val := Elt Ideal) (s := SS n) (e := .f32) [⟨Rect.unit (s := SS n) ![8, 0] ![512, n] i1, p⟩, ⟨Rect.unit (s := SS n) ![0, 0] ![8, n] i0, q⟩] (ix2 k h)
      = rows (fun i h => q (ix2 i h)) (fun i h => p (ix2 i h)) k h := by
  unfold rows
  by_cases hk : k.val < 8
  · rw [dif_pos hk, canon_skip_tail i1 p _ k h hk, canon_head i0 q _ k h hk]
  · rw [dif_neg hk, canon_tail i1 p _ k h hk]

variable {sig : RefSig} {κ : Kind} {sp : Space} (v : View sig κ sp (SS n) .f32)

/-- The scratch carried from the point before, its block stored over it: its rows. -/
theorem writes_rows (i1 : ∀ a, (![8, 0] : Fin 2 → ℕ) a + (![512, n] : Fin 2 → ℕ) a ≤ (SS n).size a) (p : Vec Ideal (S5 n) .f32)
    (f : v.ty.Contents (Elt Ideal)) (k : Fin 520) (h : Fin n) :
    View.read (Elt Ideal) v (v.writes (Elt Ideal) f [⟨Rect.unit (s := SS n) ![8, 0] ![512, n] i1, p⟩]) (ix2 k h)
      = rows (fun i h => View.read (Elt Ideal) v f (ix2 ⟨i.val, by omega⟩ h)) (fun i h => p (ix2 i h)) k h := by
  unfold rows
  by_cases hk : k.val < 8
  · rw [dif_pos hk]
    refine View.read_writes_cons_unit_of_not_mem v f i1 p [] (ix2 k h) rfl 0 (.inl ?_)
    exact hk
  · rw [dif_neg hk, View.read_writes_apply_eq_canon]
    · exact canon_tail i1 p _ k h hk
    · refine ⟨_, List.mem_singleton.mpr rfl, ?_⟩
      rw [Rect.mem_set_unit]
      intro a
      match a with
      | ⟨0, _⟩ => exact ⟨by show 8 ≤ k.val; omega, by show k.val < 8 + 512; omega⟩
      | ⟨1, _⟩ => exact ⟨by show 0 ≤ h.val; omega, by show h.val < 0 + n; omega⟩

/-- A load of 512 rows from row `o`. -/
theorem ld_rows (o : ℕ) (io : ∀ a, (![o, 0] : Fin 2 → ℕ) a + (![512, n] : Fin 2 → ℕ) a ≤ (SS n).size a) (ho : o ≤ 8)
    (X : Vec Ideal (SS n) .f32) (r : Fin 512) (h : Fin n) :
    View.ld (Val := Elt Ideal) (e' := .f32) X (Rect.unit (s := SS n) ![o, 0] ![512, n] io) (ix2 r h) = X (ix2 ⟨o + r.val, by omega⟩ h) := by
  show X _ = X _
  congr 1
  funext a
  match a with
  | ⟨0, _⟩ => exact Fin.ext (by show o + 1 * r.val = o + r.val; omega)
  | ⟨1, _⟩ => exact Fin.ext (by show 0 + 1 * h.val = h.val; omega)

/-- The load of 512 rows after the scratch is filled from a history. -/
theorem load_fill (o : ℕ) (io : ∀ a, (![o, 0] : Fin 2 → ℕ) a + (![512, n] : Fin 2 → ℕ) a ≤ (SS n).size a) (ho : o ≤ 8)
    (i1 : ∀ a, (![8, 0] : Fin 2 → ℕ) a + (![512, n] : Fin 2 → ℕ) a ≤ (SS n).size a)
    (i0 : ∀ a, (![0, 0] : Fin 2 → ℕ) a + (![8, n] : Fin 2 → ℕ) a ≤ (SS n).size a) (p : Vec Ideal (S5 n) .f32) (q : Vec Ideal (S8 n) .f32)
    (r : Fin 512) (h : Fin n) :
    v.readCov (Val := Elt Ideal) [⟨Rect.unit (s := SS n) ![8, 0] ![512, n] i1, p⟩, ⟨Rect.unit (s := SS n) ![0, 0] ![8, n] i0, q⟩]
        (Rect.unit (s := SS n) ![o, 0] ![512, n] io).toLoadRect (ix2 r h)
      = rows (fun i h => q (ix2 i h)) (fun i h => p (ix2 i h)) ⟨o + r.val, by omega⟩ h := by
  rw [View.readCov_eq_canon', ← canon_rows i1 i0 p q]
  exact ld_rows o io ho _ r h

/-- The load of 512 rows after the block is stored over the scratch carried. -/
theorem load_carry (o : ℕ) (io : ∀ a, (![o, 0] : Fin 2 → ℕ) a + (![512, n] : Fin 2 → ℕ) a ≤ (SS n).size a) (ho : o ≤ 8)
    (i1 : ∀ a, (![8, 0] : Fin 2 → ℕ) a + (![512, n] : Fin 2 → ℕ) a ≤ (SS n).size a) (p : Vec Ideal (S5 n) .f32)
    (f : v.ty.Contents (Elt Ideal)) (r : Fin 512) (h : Fin n) :
    View.ld (Val := Elt Ideal) (e' := .f32) (View.read (Elt Ideal) v (v.writes (Elt Ideal) f [⟨Rect.unit (s := SS n) ![8, 0] ![512, n] i1, p⟩]))
        (Rect.unit (s := SS n) ![o, 0] ![512, n] io) (ix2 r h)
      = rows (fun i h => View.read (Elt Ideal) v f (ix2 ⟨i.val, by omega⟩ h)) (fun i h => p (ix2 i h)) ⟨o + r.val, by omega⟩ h := by
  rw [← writes_rows v i1 p f]
  exact ld_rows o io ho _ r h

/-- The load of the last eight rows. -/
theorem load_last (io : ∀ a, (![512, 0] : Fin 2 → ℕ) a + (![8, n] : Fin 2 → ℕ) a ≤ (SS n).size a)
    (i1 : ∀ a, (![8, 0] : Fin 2 → ℕ) a + (![512, n] : Fin 2 → ℕ) a ≤ (SS n).size a) (p : Vec Ideal (S5 n) .f32)
    (L : List (View.Piece (Elt Ideal) (SS n) .f32)) (i : Fin 8) (h : Fin n) :
    v.readCov (Val := Elt Ideal) (⟨Rect.unit (s := SS n) ![8, 0] ![512, n] i1, p⟩ :: L)
        (Rect.unit (s := SS n) ![512, 0] ![8, n] io).toLoadRect (ix2 i h)
      = p (ix2 ⟨504 + i.val, by omega⟩ h) := by
  rw [View.readCov_eq_canon']
  have e : (Rect.unit (s := SS n) ![512, 0] ![8, n] io).toLoadRect.idx (ix2 i h) = (ix2 (⟨512 + i.val, by omega⟩ : Fin 520) h : (SS n).Idx) := by
    funext a
    match a with
    | ⟨0, _⟩ => exact Fin.ext (by show 512 + 1 * i.val = 512 + i.val; omega)
    | ⟨1, _⟩ => exact Fin.ext (by show 0 + 1 * h.val = h.val; omega)
  show View.canon _ _ = _
  rw [e, canon_tail i1 p L _ h (by show ¬ 512 + i.val < 8; omega)]
  exact congrArg (fun a => p (ix2 a h)) (Fin.ext (by show 512 + i.val - 8 = 504 + i.val; omega))

end Cert.Proj

end
-- ==== Proof.ProjPoint.lean ====
/- What a grid point leaves in its output blocks and in the scratch it carries: rows of the reference's values. -/
module

public import proofs.«01_k».proof.Proof.FrameI
public import proofs.«01_k».proof.Proof.ProjHost
public import proofs.«01_k».proof.Proof.ProjKer
public import proofs.«01_k».proof.Proof.ProjYa
public import proofs.«01_k».proof.Proof.ProjScr

@[expose] public section

set_option maxRecDepth 16384

noncomputable section

namespace Cert.Proj

open Idealize.ShloMosaic Idealize.SL.Sem Cert.Kernel2Ideal Cert.Kernel2Ideal.Gen
open Cert.Route (IsReal)

variable (m : (ℓ : Loc nD τ sig) → Buf (Elt Ideal) ℓ) (c : Dev nD)

abbrev A0 : FVec Ideal S2x8192x1024 .f32 := m (c, Proc.devRef .tc main_arg0)
abbrev A1 : FVec Ideal S8x512 .f32 := m (c, Proc.devRef .tc main_arg1)
abbrev A2 : FVec Ideal S8x1536 .f32 := m (c, Proc.devRef .tc main_arg2)
abbrev A3 : FVec Ideal S1024 .f32 := m (c, Proc.devRef .tc main_arg3)
abbrev A4 : FVec Ideal S1024x3592 .f32 := m (c, Proc.devRef .tc main_arg4)
abbrev A5 : FVec Ideal S3x512 .f32 := m (c, Proc.devRef .tc main_arg5)
abbrev A6 : FVec Ideal S512 .f32 := m (c, Proc.devRef .tc main_arg6)
abbrev A7 : FVec Ideal S4x1536 .f32 := m (c, Proc.devRef .tc main_arg7)
abbrev A8 : FVec Ideal S4 .f32 := m (c, Proc.devRef .tc main_arg8)
abbrev A9 : FVec Ideal S4 .f32 := m (c, Proc.devRef .tc main_arg9)

theorem holds_at (t : Fin cfg0.N) (r : Fin 512) :
    Holds (iblk m c 0 t) (iblk m c 3 t) (iblk m c 4 t) (iblk m c 5 t) (iblk m c 6 t) (iblk m c 7 t) r (seqOf t) (tokOf t r)
      (A0 m c) (A3 m c) (A4 m c) where
  h0 k := (blk0 m c t r k).trans (congrFun (V_main_arg0 m c) _)
  h3 k := (blk3 m c t 0 k).trans (V_v11 m c _)
  h4 k j := (blk4 m c t k j).trans (V_v13 m c _ _)
  h5 k j := (blk5 m c t k j).trans (V_v15 m c _ _)
  h6 k j := (blk6 m c t k j).trans (V_v17 m c _ _)
  h7 k j := (blk7 m c t k _).trans (V_v18 m c _ _)

/-- A load of one row of the weights of a convolution. -/
theorem ld_one {q n : ℕ} (j : ℕ) (ij : ∀ a, (![j, 0] : Fin 2 → ℕ) a + (![1, n] : Fin 2 → ℕ) a ≤ (⟨2, ![q, n]⟩ : Shape).size a) (hj : j < q)
    (X : Vec Ideal ⟨2, ![q, n]⟩ .f32) (h : Fin n) :
    View.ld (Val := Elt Ideal) (e' := .f32) X (Rect.unit (s := ⟨2, ![q, n]⟩) ![j, 0] ![1, n] ij) (ix2 0 h) = X (ix2 ⟨j, hj⟩ h) := by
  show X _ = X _
  congr 1
  funext a
  match a with
  | ⟨0, _⟩ => exact Fin.ext (by show j + 1 * 0 = j; omega)
  | ⟨1, _⟩ => exact Fin.ext (by show 0 + 1 * h.val = h.val; omega)

/-- The weights of the first convolution, row by row. -/
theorem w5 (t : Fin cfg0.N) (j : ℕ) (ij : ∀ a, (![j, 0] : Fin 2 → ℕ) a + (![1, 512] : Fin 2 → ℕ) a ≤ S3x512.size a) (hj : j < 3) (h : Fin 512) :
    View.ld (Val := Elt Ideal) (e' := .f32) (iblk m c 8 t : Vec Ideal S3x512 .f32) (Rect.unit (s := S3x512) ![j, 0] ![1, 512] ij) (ix2 0 h)
      = A5 m c (ix2 ⟨j, hj⟩ h) :=
  (ld_one j ij hj _ h).trans ((blk8 m c t _ h).trans (congrFun (V_main_arg5 m c) _))

/-- The weights of the second convolution, row by row. -/
theorem w7 (t : Fin cfg0.N) (j : ℕ) (ij : ∀ a, (![j, 0] : Fin 2 → ℕ) a + (![1, 1536] : Fin 2 → ℕ) a ≤ S4x1536.size a) (hj : j < 4) (h : Fin 1536) :
    View.ld (Val := Elt Ideal) (e' := .f32) (iblk m c 11 t : Vec Ideal S4x1536 .f32) (Rect.unit (s := S4x1536) ![j, 0] ![1, 1536] ij) (ix2 0 h)
      = A7 m c (ix2 ⟨j, hj⟩ h) :=
  (ld_one j ij hj _ h).trans ((blk11 m c t _ h).trans (congrFun (V_main_arg7 m c) _))

/-! ### The scratch of each convolution: the rows a point loads -/

abbrev bd8 (n : ℕ) : Prop := ∀ a, (![8, 0] : Fin 2 → ℕ) a + (![512, n] : Fin 2 → ℕ) a ≤ (SS n).size a
abbrev bd0 (n : ℕ) : Prop := ∀ a, (![0, 0] : Fin 2 → ℕ) a + (![8, n] : Fin 2 → ℕ) a ≤ (SS n).size a
abbrev bdo (n o : ℕ) : Prop := ∀ a, (![o, 0] : Fin 2 → ℕ) a + (![512, n] : Fin 2 → ℕ) a ≤ (SS n).size a

/-- Row `i` of the history a point finds, as a row of the convolution's input. -/
abbrev hrow (t : Fin cfg0.N) (i : Fin 8) : Fin 8200 := ⟨t.val % 16 * 512 + i.val, by omega⟩

abbrev trow (t : Fin cfg0.N) (r : Fin 512) (o : ℕ) (ho : o ≤ 8) : Fin 8200 := ⟨(tokOf t r).val + o, by show t.val % 16 * 512 + r.val + o < 8200; omega⟩

theorem rows_cux (t : Fin cfg0.N) {q : Fin 8 → Fin 512 → EReal} {p : Fin 512 → Fin 512 → EReal}
    (hq : ∀ i h, q i h = cux (A0 m c) (A1 m c) (A3 m c) (A4 m c) (seqOf t) (hrow t i) h)
    (hp : ∀ r h, p r h = Cert.Reference2Ideal.Read.val_main_v21 (F := Ideal) (A0 m c) (A3 m c) (A4 m c) (ix3 (seqOf t) (tokOf t r) h))
    (o : ℕ) (ho : o ≤ 8) (r : Fin 512) (h : Fin 512) :
    rows q p ⟨o + r.val, by omega⟩ h = cux (A0 m c) (A1 m c) (A3 m c) (A4 m c) (seqOf t) (trow t r o ho) h := by
  unfold rows
  by_cases hk : o + r.val < 8
  · rw [dif_pos hk, hq]
    exact congrArg (fun k => cux (A0 m c) (A1 m c) (A3 m c) (A4 m c) (seqOf t) k h) (Fin.ext (by show t.val % 16 * 512 + (o + r.val) = t.val % 16 * 512 + r.val + o; omega))
  · rw [dif_neg hk, hp]
    unfold cux
    rw [dif_neg (by show ¬ t.val % 16 * 512 + r.val + o < 8; omega)]
    exact congrArg (fun k => Cert.Reference2Ideal.Read.val_main_v21 (F := Ideal) (A0 m c) (A3 m c) (A4 m c) (ix3 (seqOf t) k h))
      (Fin.ext (by show t.val % 16 * 512 + (o + r.val - 8) = t.val % 16 * 512 + r.val + o - 8; omega))

theorem hist_cux (t : Fin cfg0.N) (h0 : t.val % 16 = 0) (i : Fin 8) (h : Fin 512) :
    k0_pay2 (F := Ideal) (iblk m c 1 t) (ix2 i h) = cux (A0 m c) (A1 m c) (A3 m c) (A4 m c) (seqOf t) (hrow t i) h := by
  unfold cux
  rw [dif_pos (by show t.val % 16 * 512 + i.val < 8; omega)]
  refine (show _ = (iblk m c 1 t : Vec Ideal S8x512 .f32) (ix2 i h) from by pointwise [k0_pay2]).trans ?_
  refine (blk1 m c t i h).trans ((congrFun (V_main_arg1 m c) _).trans ?_)
  exact congrArg (fun k => A1 m c (ix2 k h)) (Fin.ext (by show i.val = t.val % 16 * 512 + i.val; omega))

/-- The load, at the first point of a sequence. -/
abbrev lA0 (v : View sig .tc .vmem S520x512 .f32) (t : Fin cfg0.N) (o : ℕ) (io : bdo 512 o) (i1 : bd8 512) (i0 : bd0 512) : Vec Ideal S512x512 .f32 :=
  v.readCov (Val := Elt Ideal) [⟨Rect.unit (s := S520x512) ![8, 0] ![512, 512] i1, k0_pay8 (iblk m c 0 t) (iblk m c 3 t) (iblk m c 4 t)⟩,
    ⟨Rect.unit (s := S520x512) ![0, 0] ![8, 512] i0, k0_pay2 (iblk m c 1 t)⟩] (Rect.unit (s := S520x512) ![o, 0] ![512, 512] io).toLoadRect

/-- The load, at any other point. -/
abbrev lB0 (v : View sig .tc .vmem S520x512 .f32) (f : v.ty.Contents (Elt Ideal)) (t : Fin cfg0.N) (o : ℕ) (io : bdo 512 o) (i1 : bd8 512) : Vec Ideal S512x512 .f32 :=
  View.ld (Val := Elt Ideal) (e' := .f32) (View.read (Elt Ideal) v (v.writes (Elt Ideal) f [⟨Rect.unit (s := S520x512) ![8, 0] ![512, 512] i1, k0_pay8 (iblk m c 0 t) (iblk m c 3 t) (iblk m c 4 t)⟩]))
    (Rect.unit (s := S520x512) ![o, 0] ![512, 512] io)

theorem lA0_row (v : View sig .tc .vmem S520x512 .f32) (t : Fin cfg0.N) (h0 : t.val % 16 = 0) (o : ℕ) (ho : o ≤ 8) (io : bdo 512 o) (i1 : bd8 512) (i0 : bd0 512)
    (r : Fin 512) (h : Fin 512) : lA0 m c v t o io i1 i0 (ix2 r h) = cux (A0 m c) (A1 m c) (A3 m c) (A4 m c) (seqOf t) (trow t r o ho) h :=
  (load_fill v o io ho i1 i0 _ _ r h).trans
    (rows_cux m c t (fun i h => hist_cux m c t h0 i h) (fun r h => cus_row (holds_at m c t r) h) o ho r h)

/-- What a point other than a sequence's first finds in the scratch. -/
abbrev fnd0 (t : Fin cfg0.N) (X : Vec Ideal S520x512 .f32) : Prop :=
  ∀ (i : Fin 8) (h : Fin 512), X (ix2 ⟨i.val, by omega⟩ h) = cux (A0 m c) (A1 m c) (A3 m c) (A4 m c) (seqOf t) (hrow t i) h

theorem lB0_row (v : View sig .tc .vmem S520x512 .f32) (f : v.ty.Contents (Elt Ideal)) (t : Fin cfg0.N)
    (hf : fnd0 m c t (View.read (Elt Ideal) v f)) (o : ℕ) (ho : o ≤ 8) (io : bdo 512 o) (i1 : bd8 512)
    (r : Fin 512) (h : Fin 512) : lB0 m c v f t o io i1 (ix2 r h) = cux (A0 m c) (A1 m c) (A3 m c) (A4 m c) (seqOf t) (trow t r o ho) h :=
  (load_carry v o io ho i1 _ f r h).trans
    (rows_cux m c t (fun i h => hf i h) (fun r h => cus_row (holds_at m c t r) h) o ho r h)

theorem rows_qkx (t : Fin cfg0.N) {q : Fin 8 → Fin 1536 → EReal} {p : Fin 512 → Fin 1536 → EReal}
    (hq : ∀ i h, q i h = qkx (A0 m c) (A2 m c) (A3 m c) (A4 m c) (seqOf t) (hrow t i) h)
    (hp : ∀ r h, p r h = Cert.Reference2Ideal.Read.val_main_v17 (F := Ideal) (A0 m c) (A3 m c) (A4 m c) (ix3 (seqOf t) (tokOf t r) h))
    (o : ℕ) (ho : o ≤ 8) (r : Fin 512) (h : Fin 1536) :
    rows q p ⟨o + r.val, by omega⟩ h = qkx (A0 m c) (A2 m c) (A3 m c) (A4 m c) (seqOf t) (trow t r o ho) h := by
  unfold rows
  by_cases hk : o + r.val < 8
  · rw [dif_pos hk, hq]
    exact congrArg (fun k => qkx (A0 m c) (A2 m c) (A3 m c) (A4 m c) (seqOf t) k h) (Fin.ext (by show t.val % 16 * 512 + (o + r.val) = t.val % 16 * 512 + r.val + o; omega))
  · rw [dif_neg hk, hp]
    unfold qkx
    rw [dif_neg (by show ¬ t.val % 16 * 512 + r.val + o < 8; omega)]
    exact congrArg (fun k => Cert.Reference2Ideal.Read.val_main_v17 (F := Ideal) (A0 m c) (A3 m c) (A4 m c) (ix3 (seqOf t) k h))
      (Fin.ext (by show t.val % 16 * 512 + (o + r.val - 8) = t.val % 16 * 512 + r.val + o - 8; omega))

theorem hist_qkx (t : Fin cfg0.N) (h0 : t.val % 16 = 0) (i : Fin 8) (h : Fin 1536) :
    k0_pay3 (F := Ideal) (iblk m c 2 t) (ix2 i h) = qkx (A0 m c) (A2 m c) (A3 m c) (A4 m c) (seqOf t) (hrow t i) h := by
  unfold qkx
  rw [dif_pos (by show t.val % 16 * 512 + i.val < 8; omega)]
  refine (show _ = (iblk m c 2 t : Vec Ideal S8x1536 .f32) (ix2 i h) from by pointwise [k0_pay3]).trans ?_
  refine (blk2 m c t i h).trans ((congrFun (V_main_arg2 m c) _).trans ?_)
  exact congrArg (fun k => A2 m c (ix2 k h)) (Fin.ext (by show i.val = t.val % 16 * 512 + i.val; omega))

/-- The load, at the first point of a sequence. -/
abbrev lA1 (v : View sig .tc .vmem S520x1536 .f32) (t : Fin cfg0.N) (o : ℕ) (io : bdo 1536 o) (i1 : bd8 1536) (i0 : bd0 1536) : Vec Ideal S512x1536 .f32 :=
  v.readCov (Val := Elt Ideal) [⟨Rect.unit (s := S520x1536) ![8, 0] ![512, 1536] i1, k0_pay14 (k0_pay4 (iblk m c 0 t) (iblk m c 3 t)) (iblk m c 5 t)⟩,
    ⟨Rect.unit (s := S520x1536) ![0, 0] ![8, 1536] i0, k0_pay3 (iblk m c 2 t)⟩] (Rect.unit (s := S520x1536) ![o, 0] ![512, 1536] io).toLoadRect

/-- The load, at any other point. -/
abbrev lB1 (v : View sig .tc .vmem S520x1536 .f32) (f : v.ty.Contents (Elt Ideal)) (t : Fin cfg0.N) (o : ℕ) (io : bdo 1536 o) (i1 : bd8 1536) : Vec Ideal S512x1536 .f32 :=
  View.ld (Val := Elt Ideal) (e' := .f32) (View.read (Elt Ideal) v (v.writes (Elt Ideal) f [⟨Rect.unit (s := S520x1536) ![8, 0] ![512, 1536] i1, k0_pay14 (k0_pay4 (iblk m c 0 t) (iblk m c 3 t)) (iblk m c 5 t)⟩]))
    (Rect.unit (s := S520x1536) ![o, 0] ![512, 1536] io)

theorem lA1_row (v : View sig .tc .vmem S520x1536 .f32) (t : Fin cfg0.N) (h0 : t.val % 16 = 0) (o : ℕ) (ho : o ≤ 8) (io : bdo 1536 o) (i1 : bd8 1536) (i0 : bd0 1536)
    (r : Fin 512) (h : Fin 1536) : lA1 m c v t o io i1 i0 (ix2 r h) = qkx (A0 m c) (A2 m c) (A3 m c) (A4 m c) (seqOf t) (trow t r o ho) h :=
  (load_fill v o io ho i1 i0 _ _ r h).trans
    (rows_qkx m c t (fun i h => hist_qkx m c t h0 i h) (fun r h => pqs_row (holds_at m c t r) h) o ho r h)

/-- What a point other than a sequence's first finds in the scratch. -/
abbrev fnd1 (t : Fin cfg0.N) (X : Vec Ideal S520x1536 .f32) : Prop :=
  ∀ (i : Fin 8) (h : Fin 1536), X (ix2 ⟨i.val, by omega⟩ h) = qkx (A0 m c) (A2 m c) (A3 m c) (A4 m c) (seqOf t) (hrow t i) h

theorem lB1_row (v : View sig .tc .vmem S520x1536 .f32) (f : v.ty.Contents (Elt Ideal)) (t : Fin cfg0.N)
    (hf : fnd1 m c t (View.read (Elt Ideal) v f)) (o : ℕ) (ho : o ≤ 8) (io : bdo 1536 o) (i1 : bd8 1536)
    (r : Fin 512) (h : Fin 1536) : lB1 m c v f t o io i1 (ix2 r h) = qkx (A0 m c) (A2 m c) (A3 m c) (A4 m c) (seqOf t) (trow t r o ho) h :=
  (load_carry v o io ho i1 _ f r h).trans
    (rows_qkx m c t (fun i h => hf i h) (fun r h => pqs_row (holds_at m c t r) h) o ho r h)

/-! ### Heads stored side by side -/

abbrev bdh (o : ℕ) : Prop := ∀ a, (![0, 0, o] : Fin 3 → ℕ) a + (![1, 512, 128] : Fin 3 → ℕ) a ≤ S1x512x512.size a

theorem head_at (o : ℕ) (io : bdh o) (p : Vec Ideal S1x512x128 .f32) (L : List (View.Piece (Elt Ideal) S1x512x512 .f32)) (r h : Fin 512)
    (hl : o ≤ h.val) (hh : h.val < o + 128) :
    View.canon (Val := Elt Ideal) (s := S1x512x512) (e := .f32) (⟨Rect.unit (s := S1x512x512) ![0, 0, o] ![1, 512, 128] io, p⟩ :: L) (ix3 0 r h)
      = p (ix3 0 r ⟨h.val - o, by omega⟩) := by
  have e : (ix3 0 r h : S1x512x512.Idx) = (Rect.unit (s := S1x512x512) ![0, 0, o] ![1, 512, 128] io).emb (ix3 0 r (⟨h.val - o, by omega⟩ : Fin 128)) := by
    funext a
    match a with
    | ⟨0, _⟩ => exact Fin.ext (by show 0 = 0 + 1 * 0; omega)
    | ⟨1, _⟩ => exact Fin.ext (by show r.val = 0 + 1 * r.val; omega)
    | ⟨2, _⟩ => exact Fin.ext (by show h.val = o + 1 * (h.val - o); omega)
  rw [e]
  exact View.canon_cons_emb (Val := Elt Ideal) (Rect.unit (s := S1x512x512) ![0, 0, o] ![1, 512, 128] io) p L _

theorem head_skip (o : ℕ) (io : bdh o) (p : Vec Ideal S1x512x128 .f32) (L : List (View.Piece (Elt Ideal) S1x512x512 .f32)) (r h : Fin 512)
    (hl : h.val < o) :
    View.canon (Val := Elt Ideal) (s := S1x512x512) (e := .f32) (⟨Rect.unit (s := S1x512x512) ![0, 0, o] ![1, 512, 128] io, p⟩ :: L) (ix3 0 r h)
      = View.canon (Val := Elt Ideal) (s := S1x512x512) (e := .f32) L (ix3 0 r h) := by
  refine View.canon_cons_of_not_mem _ _ ?_
  rw [Rect.mem_set_unit]
  intro hall
  have ho : o ≤ h.val := (hall 2).1
  omega

theorem heads (i0 : bdh 0) (i1 : bdh 128) (i2 : bdh 256) (i3 : bdh 384)
    (p0 p1 p2 p3 : Vec Ideal S1x512x128 .f32) (r : Fin 512) (h : Fin 512) (g : Fin 4 → Fin 128 → EReal)
    (e0 : ∀ d, p0 (ix3 0 r d) = g 0 d) (e1 : ∀ d, p1 (ix3 0 r d) = g 1 d) (e2 : ∀ d, p2 (ix3 0 r d) = g 2 d) (e3 : ∀ d, p3 (ix3 0 r d) = g 3 d) :
    View.canon (Val := Elt Ideal) (s := S1x512x512) (e := .f32)
      [⟨Rect.unit (s := S1x512x512) ![0, 0, 384] ![1, 512, 128] i3, p3⟩, ⟨Rect.unit (s := S1x512x512) ![0, 0, 256] ![1, 512, 128] i2, p2⟩,
        ⟨Rect.unit (s := S1x512x512) ![0, 0, 128] ![1, 512, 128] i1, p1⟩, ⟨Rect.unit (s := S1x512x512) ![0, 0, 0] ![1, 512, 128] i0, p0⟩]
      (ix3 0 r h) = g ⟨h.val / 128, by omega⟩ ⟨h.val % 128, by omega⟩ := by
  have key : ∀ (n : Fin 4) (o : ℕ) (e : h.val - o < 128), o = 128 * n.val → o ≤ h.val →
      g n ⟨h.val - o, e⟩ = g ⟨h.val / 128, by omega⟩ ⟨h.val % 128, by omega⟩ := fun n o e en el => by
    have e1 : n = ⟨h.val / 128, by omega⟩ := Fin.ext (by show n.val = h.val / 128; omega)
    have e2 : (⟨h.val - o, e⟩ : Fin 128) = ⟨h.val % 128, by omega⟩ := Fin.ext (by show h.val - o = h.val % 128; omega)
    exact congrArg₂ g e1 e2
  by_cases h3 : 384 ≤ h.val
  · rw [head_at 384 i3 p3 _ r h h3 (by omega), e3]
    exact key 3 384 _ rfl h3
  rw [head_skip 384 i3 p3 _ r h (by omega)]
  by_cases h2 : 256 ≤ h.val
  · rw [head_at 256 i2 p2 _ r h h2 (by omega), e2]
    exact key 2 256 _ rfl h2
  rw [head_skip 256 i2 p2 _ r h (by omega)]
  by_cases h1 : 128 ≤ h.val
  · rw [head_at 128 i1 p1 _ r h h1 (by omega), e1]
    exact key 1 128 _ rfl h1
  rw [head_skip 128 i1 p1 _ r h (by omega), head_at 0 i0 p0 _ r h (by omega) (by omega), e0]
  exact key 0 0 _ rfl (by omega)

/-- A row of heads of the first kind is a row of the reference's. -/
theorem qh_eq (b : Fin 2) (l : Fin 8192) (h : Fin 512) :
    qh (A0 m c) (A2 m c) (A3 m c) (A4 m c) (A7 m c) b l ⟨h.val / 128, by omega⟩ ⟨h.val % 128, by omega⟩
      = Cert.Reference2Ideal.Read.val_main_v161 (F := Ideal) (A0 m c) (A2 m c) (A3 m c) (A4 m c) (A7 m c) (ix3 b l h) := by
  rw [ref_q]
  have e : (⟨h.val / 128 * 128 + h.val % 128, by omega⟩ : Fin 1536) = ⟨h.val, by omega⟩ := Fin.ext (by show h.val / 128 * 128 + h.val % 128 = h.val; omega)
  exact congrArg (fun k => cv (A0 m c) (A2 m c) (A3 m c) (A4 m c) (A7 m c) b l k * _ * _) e

/-- A row of heads of the second kind is a row of the reference's. -/
theorem kh_eq (b : Fin 2) (l : Fin 8192) (h : Fin 512) :
    kh (A0 m c) (A2 m c) (A3 m c) (A4 m c) (A7 m c) b l ⟨h.val / 128, by omega⟩ ⟨h.val % 128, by omega⟩
      = Cert.Reference2Ideal.Read.val_main_v162 (F := Ideal) (A0 m c) (A2 m c) (A3 m c) (A4 m c) (A7 m c) (ix3 b l h) := by
  rw [ref_k]
  have e : (⟨512 + (h.val / 128 * 128 + h.val % 128), by omega⟩ : Fin 1536) = ⟨512 + h.val, by omega⟩ :=
    Fin.ext (by show 512 + (h.val / 128 * 128 + h.val % 128) = 512 + h.val; omega)
  exact congrArg (fun k => cv (A0 m c) (A2 m c) (A3 m c) (A4 m c) (A7 m c) b l k * _) e

end Cert.Proj

end
-- ==== Proof.ProjOut.lean ====
/- What a grid point leaves in its output blocks, as rows of the reference's values. -/
module

public import proofs.«01_k».proof.Proof.ProjPoint

@[expose] public section

set_option maxRecDepth 16384

noncomputable section

namespace Cert.Proj

open Idealize.ShloMosaic Idealize.SL.Sem Cert.Kernel2Ideal Cert.Kernel2Ideal.Gen
open Cert.Route (IsReal)

variable (m : (ℓ : Loc nD τ sig) → Buf (Elt Ideal) ℓ) (c : Dev nD)

theorem oA15 (t : Fin cfg0.N) (h0 : t.val % 16 = 0) (r : Fin 512) (h : Fin 512) :
    (out0_A_15 (F := Ideal) m c t h0 : Vec Ideal S1x512x512 .f32) (ix3 0 r h)
      = Cert.Reference2Ideal.Read.val_main_v161 (F := Ideal) (A0 m c) (A2 m c) (A3 m c) (A4 m c) (A7 m c) (ix3 (seqOf t) (tokOf t r) h) := by
  unfold out0_A_15 runA
  frame_out
  refine (heads _ _ _ _ _ _ _ _ r h (fun n d => qh (A0 m c) (A2 m c) (A3 m c) (A4 m c) (A7 m c) (seqOf t) (tokOf t r) n d) (fun d => ?_) (fun d => ?_) (fun d => ?_) (fun d => ?_)).trans (qh_eq m c _ _ h)
  · exact q0_row (holdsC (holds_at m c t r) (lA1_row m c _ t h0 5 (by omega) _ _ _ r)
      (lA1_row m c _ t h0 6 (by omega) _ _ _ r)
      (lA1_row m c _ t h0 7 (by omega) _ _ _ r)
      (w7 m c t 0 _ (by omega)) (w7 m c t 1 _ (by omega)) (w7 m c t 2 _ (by omega)) (w7 m c t 3 _ (by omega))) d
  · exact q1_row (holdsC (holds_at m c t r) (lA1_row m c _ t h0 5 (by omega) _ _ _ r)
      (lA1_row m c _ t h0 6 (by omega) _ _ _ r)
      (lA1_row m c _ t h0 7 (by omega) _ _ _ r)
      (w7 m c t 0 _ (by omega)) (w7 m c t 1 _ (by omega)) (w7 m c t 2 _ (by omega)) (w7 m c t 3 _ (by omega))) d
  · exact q2_row (holdsC (holds_at m c t r) (lA1_row m c _ t h0 5 (by omega) _ _ _ r)
      (lA1_row m c _ t h0 6 (by omega) _ _ _ r)
      (lA1_row m c _ t h0 7 (by omega) _ _ _ r)
      (w7 m c t 0 _ (by omega)) (w7 m c t 1 _ (by omega)) (w7 m c t 2 _ (by omega)) (w7 m c t 3 _ (by omega))) d
  · exact q3_row (holdsC (holds_at m c t r) (lA1_row m c _ t h0 5 (by omega) _ _ _ r)
      (lA1_row m c _ t h0 6 (by omega) _ _ _ r)
      (lA1_row m c _ t h0 7 (by omega) _ _ _ r)
      (w7 m c t 0 _ (by omega)) (w7 m c t 1 _ (by omega)) (w7 m c t 2 _ (by omega)) (w7 m c t 3 _ (by omega))) d

theorem oA16 (t : Fin cfg0.N) (h0 : t.val % 16 = 0) (r : Fin 512) (h : Fin 512) :
    (out0_A_16 (F := Ideal) m c t h0 : Vec Ideal S1x512x512 .f32) (ix3 0 r h)
      = Cert.Reference2Ideal.Read.val_main_v162 (F := Ideal) (A0 m c) (A2 m c) (A3 m c) (A4 m c) (A7 m c) (ix3 (seqOf t) (tokOf t r) h) := by
  unfold out0_A_16 runA
  frame_out
  refine (heads _ _ _ _ _ _ _ _ r h (fun n d => kh (A0 m c) (A2 m c) (A3 m c) (A4 m c) (A7 m c) (seqOf t) (tokOf t r) n d) (fun d => ?_) (fun d => ?_) (fun d => ?_) (fun d => ?_)).trans (kh_eq m c _ _ h)
  · exact k0_row (holdsC (holds_at m c t r) (lA1_row m c _ t h0 5 (by omega) _ _ _ r)
      (lA1_row m c _ t h0 6 (by omega) _ _ _ r)
      (lA1_row m c _ t h0 7 (by omega) _ _ _ r)
      (w7 m c t 0 _ (by omega)) (w7 m c t 1 _ (by omega)) (w7 m c t 2 _ (by omega)) (w7 m c t 3 _ (by omega))) d
  · exact k1_row (holdsC (holds_at m c t r) (lA1_row m c _ t h0 5 (by omega) _ _ _ r)
      (lA1_row m c _ t h0 6 (by omega) _ _ _ r)
      (lA1_row m c _ t h0 7 (by omega) _ _ _ r)
      (w7 m c t 0 _ (by omega)) (w7 m c t 1 _ (by omega)) (w7 m c t 2 _ (by omega)) (w7 m c t 3 _ (by omega))) d
  · exact k2_row (holdsC (holds_at m c t r) (lA1_row m c _ t h0 5 (by omega) _ _ _ r)
      (lA1_row m c _ t h0 6 (by omega) _ _ _ r)
      (lA1_row m c _ t h0 7 (by omega) _ _ _ r)
      (w7 m c t 0 _ (by omega)) (w7 m c t 1 _ (by omega)) (w7 m c t 2 _ (by omega)) (w7 m c t 3 _ (by omega))) d
  · exact k3_row (holdsC (holds_at m c t r) (lA1_row m c _ t h0 5 (by omega) _ _ _ r)
      (lA1_row m c _ t h0 6 (by omega) _ _ _ r)
      (lA1_row m c _ t h0 7 (by omega) _ _ _ r)
      (w7 m c t 0 _ (by omega)) (w7 m c t 1 _ (by omega)) (w7 m c t 2 _ (by omega)) (w7 m c t 3 _ (by omega))) d

theorem oA17 (t : Fin cfg0.N) (h0 : t.val % 16 = 0) (r : Fin 512) (h : Fin 512) :
    (out0_A_17 (F := Ideal) m c t h0 : Vec Ideal S1x512x512 .f32) (ix3 0 r h)
      = Cert.Reference2Ideal.Read.val_main_v135 (F := Ideal) (A0 m c) (A2 m c) (A3 m c) (A4 m c) (A7 m c) (ix3 (seqOf t) (tokOf t r) h) := by
  unfold out0_A_17 runA
  frame_out
  exact v_row (holdsC (holds_at m c t r) (lA1_row m c _ t h0 5 (by omega) _ _ _ r)
      (lA1_row m c _ t h0 6 (by omega) _ _ _ r)
      (lA1_row m c _ t h0 7 (by omega) _ _ _ r)
      (w7 m c t 0 _ (by omega)) (w7 m c t 1 _ (by omega)) (w7 m c t 2 _ (by omega)) (w7 m c t 3 _ (by omega))) h

theorem oA18 (t : Fin cfg0.N) (h0 : t.val % 16 = 0) (r : Fin 512) (h : Fin 512) :
    (out0_A_18 (F := Ideal) m c t h0 : Vec Ideal S1x512x512 .f32) (ix3 0 r h)
      = Cert.Reference2Ideal.Read.val_main_v18 (F := Ideal) (A0 m c) (A3 m c) (A4 m c) (ix3 (seqOf t) (tokOf t r) h) := by
  unfold out0_A_18 runA
  frame_out
  exact z_row (holds_at m c t r) h

theorem oA19 (t : Fin cfg0.N) (h0 : t.val % 16 = 0) (r : Fin 512) (h : Fin 128) :
    (out0_A_19 (F := Ideal) m c t h0 : Vec Ideal S1x512x128 .f32) (ix3 0 r h)
      = Cert.Reference2Ideal.Read.val_main_v158 (F := Ideal) (A0 m c) (A3 m c) (A4 m c) (A8 m c) (A9 m c) (ix3 (seqOf t) (tokOf t r) h) := by
  unfold out0_A_19 runA
  frame_out
  exact gb_row (holds_at m c t r) (fun h => (blk13 m c t 0 _).trans (V_v23 m c h)) (fun h => (blk12 m c t 0 _).trans (V_v21 m c h)) h

theorem oA14 (t : Fin cfg0.N) (h0 : t.val % 16 = 0) (r : Fin 512)
    (q : ∀ h, IsReal (Cert.Reference2Ideal.Read.val_main_v45 (F := Ideal) (A0 m c) (A1 m c) (A3 m c) (A4 m c) (A5 m c) (ix3 (seqOf t) (tokOf t r) h))) (h : Fin 512) :
    (out0_A_14 (F := Ideal) m c t h0 : Vec Ideal S1x512x512 .bf16) (ix3 0 r h)
      = Cert.Reference2Ideal.Read.val_main_v160 (F := Ideal) (A0 m c) (A1 m c) (A3 m c) (A4 m c) (A5 m c) (A6 m c) (ix3 (seqOf t) (tokOf t r) h) := by
  unfold out0_A_14 runA
  frame_out
  exact ya_row (holds_at m c t r) (lA0_row m c _ t h0 6 (by omega) _ _ _ r)
      (lA0_row m c _ t h0 7 (by omega) _ _ _ r)
      (w5 m c t 0 _ (by omega)) (w5 m c t 1 _ (by omega)) (w5 m c t 2 _ (by omega))
      (fun j k => (blk10 m c t j k).trans (V_v10 m c j k)) (fun h => (blk9 m c t 0 h).trans (V_v19 m c h)) q h

theorem oA20 (t : Fin cfg0.N) (h0 : t.val % 16 = 0) (i : Fin 8) (h : Fin 512) :
    (out0_A_20 (F := Ideal) m c t h0 : Vec Ideal S1x8x512 .f32) (ix3 0 i h)
      = Cert.Reference2Ideal.Read.val_main_v21 (F := Ideal) (A0 m c) (A3 m c) (A4 m c) (ix3 (seqOf t) (tokOf t ⟨504 + i.val, by omega⟩) h) := by
  unfold out0_A_20 runA
  frame_out
  have e : ∀ X : Vec Ideal S8x512 .f32, k0_pay12 (F := Ideal) X (ix3 0 i h) = X (ix2 i h) := fun X => by pointwise [k0_pay12]
  exact (e _).trans ((load_last _ _ _ _ _ i h).trans (cus_row (holds_at m c t _) h))

theorem oA21 (t : Fin cfg0.N) (h0 : t.val % 16 = 0) (i : Fin 8) (h : Fin 1536) :
    (out0_A_21 (F := Ideal) m c t h0 : Vec Ideal S1x8x1536 .f32) (ix3 0 i h)
      = Cert.Reference2Ideal.Read.val_main_v17 (F := Ideal) (A0 m c) (A3 m c) (A4 m c) (ix3 (seqOf t) (tokOf t ⟨504 + i.val, by omega⟩) h) := by
  unfold out0_A_21 runA
  frame_out
  have e : ∀ X : Vec Ideal S8x1536 .f32, k0_pay19 (F := Ideal) X (ix3 0 i h) = X (ix2 i h) := fun X => by pointwise [k0_pay19]
  exact (e _).trans ((load_last _ _ _ _ _ i h).trans (pqs_row (holds_at m c t _) h))

theorem sA0 (t : Fin cfg0.N) (h0 : t.val % 16 = 0) (i : Fin 8) (h : Fin 512) :
    (sout0_A_0 (F := Ideal) m c t h0 : Vec Ideal S520x512 .f32) (ix2 ⟨i.val, by omega⟩ h)
      = Cert.Reference2Ideal.Read.val_main_v21 (F := Ideal) (A0 m c) (A3 m c) (A4 m c) (ix3 (seqOf t) (tokOf t ⟨504 + i.val, by omega⟩) h) := by
  unfold sout0_A_0 runA
  frame_out
  have e : ∀ X : Vec Ideal S8x512 .f32, k0_pay11 (F := Ideal) X (ix2 i h) = X (ix2 i h) := fun X => by pointwise [k0_pay11]
  exact (canon_head _ _ _ _ h i.isLt).trans ((e _).trans ((load_last _ _ _ _ _ i h).trans (cus_row (holds_at m c t _) h)))

theorem sA1 (t : Fin cfg0.N) (h0 : t.val % 16 = 0) (i : Fin 8) (h : Fin 1536) :
    (sout0_A_1 (F := Ideal) m c t h0 : Vec Ideal S520x1536 .f32) (ix2 ⟨i.val, by omega⟩ h)
      = Cert.Reference2Ideal.Read.val_main_v17 (F := Ideal) (A0 m c) (A3 m c) (A4 m c) (ix3 (seqOf t) (tokOf t ⟨504 + i.val, by omega⟩) h) := by
  unfold sout0_A_1 runA
  frame_out
  have e : ∀ X : Vec Ideal S8x1536 .f32, k0_pay18 (F := Ideal) X (ix2 i h) = X (ix2 i h) := fun X => by pointwise [k0_pay18]
  exact (canon_head _ _ _ _ h i.isLt).trans ((e _).trans ((load_last _ _ _ _ _ i h).trans (pqs_row (holds_at m c t _) h)))

theorem oB15 (t : Fin cfg0.N) (h0 : ¬ t.val % 16 = 0) (xs0 : Vec Ideal S520x512 .f32) (xs1 : Vec Ideal S520x1536 .f32)
    (f0 : fnd0 m c t xs0) (f1 : fnd1 m c t xs1) (r : Fin 512) (h : Fin 512) :
    (out0_B_15 (F := Ideal) m c t h0 xs0 xs1 : Vec Ideal S1x512x512 .f32) (ix3 0 r h)
      = Cert.Reference2Ideal.Read.val_main_v161 (F := Ideal) (A0 m c) (A2 m c) (A3 m c) (A4 m c) (A7 m c) (ix3 (seqOf t) (tokOf t r) h) := by
  unfold out0_B_15 runB
  frame_out
  refine (heads _ _ _ _ _ _ _ _ r h (fun n d => qh (A0 m c) (A2 m c) (A3 m c) (A4 m c) (A7 m c) (seqOf t) (tokOf t r) n d) (fun d => ?_) (fun d => ?_) (fun d => ?_) (fun d => ?_)).trans (qh_eq m c _ _ h)
  · exact q0_row (holdsC (holds_at m c t r) (lB1_row m c _ _ t (fun i h => (congrFun (read_unread_whole cc0_scratch1 _ xs1) _).trans (f1 i h)) 5 (by omega) _ _ r)
      (lB1_row m c _ _ t (fun i h => (congrFun (read_unread_whole cc0_scratch1 _ xs1) _).trans (f1 i h)) 6 (by omega) _ _ r)
      (lB1_row m c _ _ t (fun i h => (congrFun (read_unread_whole cc0_scratch1 _ xs1) _).trans (f1 i h)) 7 (by omega) _ _ r)
      (w7 m c t 0 _ (by omega)) (w7 m c t 1 _ (by omega)) (w7 m c t 2 _ (by omega)) (w7 m c t 3 _ (by omega))) d
  · exact q1_row (holdsC (holds_at m c t r) (lB1_row m c _ _ t (fun i h => (congrFun (read_unread_whole cc0_scratch1 _ xs1) _).trans (f1 i h)) 5 (by omega) _ _ r)
      (lB1_row m c _ _ t (fun i h => (congrFun (read_unread_whole cc0_scratch1 _ xs1) _).trans (f1 i h)) 6 (by omega) _ _ r)
      (lB1_row m c _ _ t (fun i h => (congrFun (read_unread_whole cc0_scratch1 _ xs1) _).trans (f1 i h)) 7 (by omega) _ _ r)
      (w7 m c t 0 _ (by omega)) (w7 m c t 1 _ (by omega)) (w7 m c t 2 _ (by omega)) (w7 m c t 3 _ (by omega))) d
  · exact q2_row (holdsC (holds_at m c t r) (lB1_row m c _ _ t (fun i h => (congrFun (read_unread_whole cc0_scratch1 _ xs1) _).trans (f1 i h)) 5 (by omega) _ _ r)
      (lB1_row m c _ _ t (fun i h => (congrFun (read_unread_whole cc0_scratch1 _ xs1) _).trans (f1 i h)) 6 (by omega) _ _ r)
      (lB1_row m c _ _ t (fun i h => (congrFun (read_unread_whole cc0_scratch1 _ xs1) _).trans (f1 i h)) 7 (by omega) _ _ r)
      (w7 m c t 0 _ (by omega)) (w7 m c t 1 _ (by omega)) (w7 m c t 2 _ (by omega)) (w7 m c t 3 _ (by omega))) d
  · exact q3_row (holdsC (holds_at m c t r) (lB1_row m c _ _ t (fun i h => (congrFun (read_unread_whole cc0_scratch1 _ xs1) _).trans (f1 i h)) 5 (by omega) _ _ r)
      (lB1_row m c _ _ t (fun i h => (congrFun (read_unread_whole cc0_scratch1 _ xs1) _).trans (f1 i h)) 6 (by omega) _ _ r)
      (lB1_row m c _ _ t (fun i h => (congrFun (read_unread_whole cc0_scratch1 _ xs1) _).trans (f1 i h)) 7 (by omega) _ _ r)
      (w7 m c t 0 _ (by omega)) (w7 m c t 1 _ (by omega)) (w7 m c t 2 _ (by omega)) (w7 m c t 3 _ (by omega))) d

theorem oB16 (t : Fin cfg0.N) (h0 : ¬ t.val % 16 = 0) (xs0 : Vec Ideal S520x512 .f32) (xs1 : Vec Ideal S520x1536 .f32)
    (f0 : fnd0 m c t xs0) (f1 : fnd1 m c t xs1) (r : Fin 512) (h : Fin 512) :
    (out0_B_16 (F := Ideal) m c t h0 xs0 xs1 : Vec Ideal S1x512x512 .f32) (ix3 0 r h)
      = Cert.Reference2Ideal.Read.val_main_v162 (F := Ideal) (A0 m c) (A2 m c) (A3 m c) (A4 m c) (A7 m c) (ix3 (seqOf t) (tokOf t r) h) := by
  unfold out0_B_16 runB
  frame_out
  refine (heads _ _ _ _ _ _ _ _ r h (fun n d => kh (A0 m c) (A2 m c) (A3 m c) (A4 m c) (A7 m c) (seqOf t) (tokOf t r) n d) (fun d => ?_) (fun d => ?_) (fun d => ?_) (fun d => ?_)).trans (kh_eq m c _ _ h)
  · exact k0_row (holdsC (holds_at m c t r) (lB1_row m c _ _ t (fun i h => (congrFun (read_unread_whole cc0_scratch1 _ xs1) _).trans (f1 i h)) 5 (by omega) _ _ r)
      (lB1_row m c _ _ t (fun i h => (congrFun (read_unread_whole cc0_scratch1 _ xs1) _).trans (f1 i h)) 6 (by omega) _ _ r)
      (lB1_row m c _ _ t (fun i h => (congrFun (read_unread_whole cc0_scratch1 _ xs1) _).trans (f1 i h)) 7 (by omega) _ _ r)
      (w7 m c t 0 _ (by omega)) (w7 m c t 1 _ (by omega)) (w7 m c t 2 _ (by omega)) (w7 m c t 3 _ (by omega))) d
  · exact k1_row (holdsC (holds_at m c t r) (lB1_row m c _ _ t (fun i h => (congrFun (read_unread_whole cc0_scratch1 _ xs1) _).trans (f1 i h)) 5 (by omega) _ _ r)
      (lB1_row m c _ _ t (fun i h => (congrFun (read_unread_whole cc0_scratch1 _ xs1) _).trans (f1 i h)) 6 (by omega) _ _ r)
      (lB1_row m c _ _ t (fun i h => (congrFun (read_unread_whole cc0_scratch1 _ xs1) _).trans (f1 i h)) 7 (by omega) _ _ r)
      (w7 m c t 0 _ (by omega)) (w7 m c t 1 _ (by omega)) (w7 m c t 2 _ (by omega)) (w7 m c t 3 _ (by omega))) d
  · exact k2_row (holdsC (holds_at m c t r) (lB1_row m c _ _ t (fun i h => (congrFun (read_unread_whole cc0_scratch1 _ xs1) _).trans (f1 i h)) 5 (by omega) _ _ r)
      (lB1_row m c _ _ t (fun i h => (congrFun (read_unread_whole cc0_scratch1 _ xs1) _).trans (f1 i h)) 6 (by omega) _ _ r)
      (lB1_row m c _ _ t (fun i h => (congrFun (read_unread_whole cc0_scratch1 _ xs1) _).trans (f1 i h)) 7 (by omega) _ _ r)
      (w7 m c t 0 _ (by omega)) (w7 m c t 1 _ (by omega)) (w7 m c t 2 _ (by omega)) (w7 m c t 3 _ (by omega))) d
  · exact k3_row (holdsC (holds_at m c t r) (lB1_row m c _ _ t (fun i h => (congrFun (read_unread_whole cc0_scratch1 _ xs1) _).trans (f1 i h)) 5 (by omega) _ _ r)
      (lB1_row m c _ _ t (fun i h => (congrFun (read_unread_whole cc0_scratch1 _ xs1) _).trans (f1 i h)) 6 (by omega) _ _ r)
      (lB1_row m c _ _ t (fun i h => (congrFun (read_unread_whole cc0_scratch1 _ xs1) _).trans (f1 i h)) 7 (by omega) _ _ r)
      (w7 m c t 0 _ (by omega)) (w7 m c t 1 _ (by omega)) (w7 m c t 2 _ (by omega)) (w7 m c t 3 _ (by omega))) d

theorem oB17 (t : Fin cfg0.N) (h0 : ¬ t.val % 16 = 0) (xs0 : Vec Ideal S520x512 .f32) (xs1 : Vec Ideal S520x1536 .f32)
    (f0 : fnd0 m c t xs0) (f1 : fnd1 m c t xs1) (r : Fin 512) (h : Fin 512) :
    (out0_B_17 (F := Ideal) m c t h0 xs0 xs1 : Vec Ideal S1x512x512 .f32) (ix3 0 r h)
      = Cert.Reference2Ideal.Read.val_main_v135 (F := Ideal) (A0 m c) (A2 m c) (A3 m c) (A4 m c) (A7 m c) (ix3 (seqOf t) (tokOf t r) h) := by
  unfold out0_B_17 runB
  frame_out
  exact v_row (holdsC (holds_at m c t r) (lB1_row m c _ _ t (fun i h => (congrFun (read_unread_whole cc0_scratch1 _ xs1) _).trans (f1 i h)) 5 (by omega) _ _ r)
      (lB1_row m c _ _ t (fun i h => (congrFun (read_unread_whole cc0_scratch1 _ xs1) _).trans (f1 i h)) 6 (by omega) _ _ r)
      (lB1_row m c _ _ t (fun i h => (congrFun (read_unread_whole cc0_scratch1 _ xs1) _).trans (f1 i h)) 7 (by omega) _ _ r)
      (w7 m c t 0 _ (by omega)) (w7 m c t 1 _ (by omega)) (w7 m c t 2 _ (by omega)) (w7 m c t 3 _ (by omega))) h

theorem oB18 (t : Fin cfg0.N) (h0 : ¬ t.val % 16 = 0) (xs0 : Vec Ideal S520x512 .f32) (xs1 : Vec Ideal S520x1536 .f32)
    (f0 : fnd0 m c t xs0) (f1 : fnd1 m c t xs1) (r : Fin 512) (h : Fin 512) :
    (out0_B_18 (F := Ideal) m c t h0 xs0 xs1 : Vec Ideal S1x512x512 .f32) (ix3 0 r h)
      = Cert.Reference2Ideal.Read.val_main_v18 (F := Ideal) (A0 m c) (A3 m c) (A4 m c) (ix3 (seqOf t) (tokOf t r) h) := by
  unfold out0_B_18 runB
  frame_out
  exact z_row (holds_at m c t r) h

theorem oB19 (t : Fin cfg0.N) (h0 : ¬ t.val % 16 = 0) (xs0 : Vec Ideal S520x512 .f32) (xs1 : Vec Ideal S520x1536 .f32)
    (f0 : fnd0 m c t xs0) (f1 : fnd1 m c t xs1) (r : Fin 512) (h : Fin 128) :
    (out0_B_19 (F := Ideal) m c t h0 xs0 xs1 : Vec Ideal S1x512x128 .f32) (ix3 0 r h)
      = Cert.Reference2Ideal.Read.val_main_v158 (F := Ideal) (A0 m c) (A3 m c) (A4 m c) (A8 m c) (A9 m c) (ix3 (seqOf t) (tokOf t r) h) := by
  unfold out0_B_19 runB
  frame_out
  exact gb_row (holds_at m c t r) (fun h => (blk13 m c t 0 _).trans (V_v23 m c h)) (fun h => (blk12 m c t 0 _).trans (V_v21 m c h)) h

theorem oB14 (t : Fin cfg0.N) (h0 : ¬ t.val % 16 = 0) (xs0 : Vec Ideal S520x512 .f32) (xs1 : Vec Ideal S520x1536 .f32)
    (f0 : fnd0 m c t xs0) (f1 : fnd1 m c t xs1) (r : Fin 512)
    (q : ∀ h, IsReal (Cert.Reference2Ideal.Read.val_main_v45 (F := Ideal) (A0 m c) (A1 m c) (A3 m c) (A4 m c) (A5 m c) (ix3 (seqOf t) (tokOf t r) h))) (h : Fin 512) :
    (out0_B_14 (F := Ideal) m c t h0 xs0 xs1 : Vec Ideal S1x512x512 .bf16) (ix3 0 r h)
      = Cert.Reference2Ideal.Read.val_main_v160 (F := Ideal) (A0 m c) (A1 m c) (A3 m c) (A4 m c) (A5 m c) (A6 m c) (ix3 (seqOf t) (tokOf t r) h) := by
  unfold out0_B_14 runB
  frame_out
  exact ya_row (holds_at m c t r) (lB0_row m c _ _ t (fun i h => (congrFun (read_unread_whole cc0_scratch0 _ xs0) _).trans (f0 i h)) 6 (by omega) _ _ r)
      (lB0_row m c _ _ t (fun i h => (congrFun (read_unread_whole cc0_scratch0 _ xs0) _).trans (f0 i h)) 7 (by omega) _ _ r)
      (w5 m c t 0 _ (by omega)) (w5 m c t 1 _ (by omega)) (w5 m c t 2 _ (by omega))
      (fun j k => (blk10 m c t j k).trans (V_v10 m c j k)) (fun h => (blk9 m c t 0 h).trans (V_v19 m c h)) q h

theorem oB20 (t : Fin cfg0.N) (h0 : ¬ t.val % 16 = 0) (xs0 : Vec Ideal S520x512 .f32) (xs1 : Vec Ideal S520x1536 .f32) (i : Fin 8) (h : Fin 512) :
    (out0_B_20 (F := Ideal) m c t h0 xs0 xs1 : Vec Ideal S1x8x512 .f32) (ix3 0 i h)
      = Cert.Reference2Ideal.Read.val_main_v21 (F := Ideal) (A0 m c) (A3 m c) (A4 m c) (ix3 (seqOf t) (tokOf t ⟨504 + i.val, by omega⟩) h) := by
  unfold out0_B_20 runB
  frame_out
  have e : ∀ X : Vec Ideal S8x512 .f32, k0_pay12 (F := Ideal) X (ix3 0 i h) = X (ix2 i h) := fun X => by pointwise [k0_pay12]
  exact (e _).trans ((load_last _ _ _ _ _ i h).trans (cus_row (holds_at m c t _) h))

theorem oB21 (t : Fin cfg0.N) (h0 : ¬ t.val % 16 = 0) (xs0 : Vec Ideal S520x512 .f32) (xs1 : Vec Ideal S520x1536 .f32) (i : Fin 8) (h : Fin 1536) :
    (out0_B_21 (F := Ideal) m c t h0 xs0 xs1 : Vec Ideal S1x8x1536 .f32) (ix3 0 i h)
      = Cert.Reference2Ideal.Read.val_main_v17 (F := Ideal) (A0 m c) (A3 m c) (A4 m c) (ix3 (seqOf t) (tokOf t ⟨504 + i.val, by omega⟩) h) := by
  unfold out0_B_21 runB
  frame_out
  have e : ∀ X : Vec Ideal S8x1536 .f32, k0_pay19 (F := Ideal) X (ix3 0 i h) = X (ix2 i h) := fun X => by pointwise [k0_pay19]
  exact (e _).trans ((load_last _ _ _ _ _ i h).trans (pqs_row (holds_at m c t _) h))

theorem sB0 (t : Fin cfg0.N) (h0 : ¬ t.val % 16 = 0) (xs0 : Vec Ideal S520x512 .f32) (xs1 : Vec Ideal S520x1536 .f32) (i : Fin 8) (h : Fin 512) :
    (sout0_B_0 (F := Ideal) m c t h0 xs0 xs1 : Vec Ideal S520x512 .f32) (ix2 ⟨i.val, by omega⟩ h)
      = Cert.Reference2Ideal.Read.val_main_v21 (F := Ideal) (A0 m c) (A3 m c) (A4 m c) (ix3 (seqOf t) (tokOf t ⟨504 + i.val, by omega⟩) h) := by
  unfold sout0_B_0 runB
  frame_out
  have e : ∀ X : Vec Ideal S8x512 .f32, k0_pay11 (F := Ideal) X (ix2 i h) = X (ix2 i h) := fun X => by pointwise [k0_pay11]
  exact (canon_head _ _ _ _ h i.isLt).trans ((e _).trans ((load_last _ _ _ _ _ i h).trans (cus_row (holds_at m c t _) h)))

theorem sB1 (t : Fin cfg0.N) (h0 : ¬ t.val % 16 = 0) (xs0 : Vec Ideal S520x512 .f32) (xs1 : Vec Ideal S520x1536 .f32) (i : Fin 8) (h : Fin 1536) :
    (sout0_B_1 (F := Ideal) m c t h0 xs0 xs1 : Vec Ideal S520x1536 .f32) (ix2 ⟨i.val, by omega⟩ h)
      = Cert.Reference2Ideal.Read.val_main_v17 (F := Ideal) (A0 m c) (A3 m c) (A4 m c) (ix3 (seqOf t) (tokOf t ⟨504 + i.val, by omega⟩) h) := by
  unfold sout0_B_1 runB
  frame_out
  have e : ∀ X : Vec Ideal S8x1536 .f32, k0_pay18 (F := Ideal) X (ix2 i h) = X (ix2 i h) := fun X => by pointwise [k0_pay18]
  exact (canon_head _ _ _ _ h i.isLt).trans ((e _).trans ((load_last _ _ _ _ _ i h).trans (pqs_row (holds_at m c t _) h)))

end Cert.Proj

end
-- ==== Proof.ProjBlocks.lean ====
/- The eight result arrays of the projections' launch: the reference's values. -/
module

public import proofs.«01_k».proof.Proof.ProjOut

@[expose] public section

set_option maxRecDepth 16384

noncomputable section

namespace Cert.Proj

open Idealize.ShloMosaic Idealize.SL.Sem Cert.Kernel2Ideal Cert.Kernel2Ideal.Gen
open Idealize.ShloMosaic.TcCoe
open Idealize.ShloMosaic.Pipeline (Dat)
open Cert.Route (IsReal)

variable (m : (ℓ : Loc nD τ sig) → Buf (Elt Ideal) ℓ) (c : Dev nD)

/-- What a point leaves in the scratch's first rows: the last rows of its block. -/
theorem scr0 (t : Fin cfg0.N) (i : Fin 8) (h : Fin 512) :
    ((outsAt0 (F := Ideal) m c t.val t.isLt).2.2.2.2.2.2.2.2.1 : Vec Ideal S520x512 .f32) (ix2 ⟨i.val, by omega⟩ h)
      = Cert.Reference2Ideal.Read.val_main_v21 (F := Ideal) (A0 m c) (A3 m c) (A4 m c) (ix3 (seqOf t) (tokOf t ⟨504 + i.val, by omega⟩) h) := by
  by_cases h0 : t.val % 16 = 0
  · rw [outsAt0_A m c t h0]
    dsimp only
    exact sA0 m c t h0 i h
  · rw [outsAt0_B m c t h0]
    dsimp only
    exact sB0 m c t h0 _ _ i h

theorem found0 (t : Fin cfg0.N) (h0 : ¬ t.val % 16 = 0) :
    fnd0 m c t (outsAt0 (F := Ideal) m c (t.val - 1) (Nat.lt_of_le_of_lt (Nat.sub_le _ _) t.isLt)).2.2.2.2.2.2.2.2.1 := fun i h => by
  have ht : t.val < 32 := t.isLt
  refine (scr0 m c ⟨t.val - 1, Nat.lt_of_le_of_lt (Nat.sub_le _ _) t.isLt⟩ i h).trans ?_
  unfold cux
  rw [dif_neg (by show ¬ t.val % 16 * 512 + i.val < 8; omega)]
  refine congrArg₂ (fun a b => Cert.Reference2Ideal.Read.val_main_v21 (F := Ideal) (A0 m c) (A3 m c) (A4 m c) (ix3 a b h)) (Fin.ext ?_) (Fin.ext ?_)
  · show (t.val - 1) / 16 = t.val / 16
    omega
  · show (t.val - 1) % 16 * 512 + (504 + i.val) = t.val % 16 * 512 + i.val - 8
    omega

/-- What a point leaves in the scratch's first rows: the last rows of its block. -/
theorem scr1 (t : Fin cfg0.N) (i : Fin 8) (h : Fin 1536) :
    ((outsAt0 (F := Ideal) m c t.val t.isLt).2.2.2.2.2.2.2.2.2 : Vec Ideal S520x1536 .f32) (ix2 ⟨i.val, by omega⟩ h)
      = Cert.Reference2Ideal.Read.val_main_v17 (F := Ideal) (A0 m c) (A3 m c) (A4 m c) (ix3 (seqOf t) (tokOf t ⟨504 + i.val, by omega⟩) h) := by
  by_cases h0 : t.val % 16 = 0
  · rw [outsAt0_A m c t h0]
    dsimp only
    exact sA1 m c t h0 i h
  · rw [outsAt0_B m c t h0]
    dsimp only
    exact sB1 m c t h0 _ _ i h

theorem found1 (t : Fin cfg0.N) (h0 : ¬ t.val % 16 = 0) :
    fnd1 m c t (outsAt0 (F := Ideal) m c (t.val - 1) (Nat.lt_of_le_of_lt (Nat.sub_le _ _) t.isLt)).2.2.2.2.2.2.2.2.2 := fun i h => by
  have ht : t.val < 32 := t.isLt
  refine (scr1 m c ⟨t.val - 1, Nat.lt_of_le_of_lt (Nat.sub_le _ _) t.isLt⟩ i h).trans ?_
  unfold qkx
  rw [dif_neg (by show ¬ t.val % 16 * 512 + i.val < 8; omega)]
  refine congrArg₂ (fun a b => Cert.Reference2Ideal.Read.val_main_v17 (F := Ideal) (A0 m c) (A3 m c) (A4 m c) (ix3 a b h)) (Fin.ext ?_) (Fin.ext ?_)
  · show (t.val - 1) / 16 = t.val / 16
    omega
  · show (t.val - 1) % 16 * 512 + (504 + i.val) = t.val % 16 * 512 + i.val - 8
    omega

/-- An index of a three-axis block whose first axis is one is the index of its other coordinates. -/
theorem ix3_eta {n1 n2 : ℕ} (y : (⟨3, ![1, n1, n2]⟩ : Shape).Idx) : y = ix3 0 ((y 1).cast rfl) ((y 2).cast rfl) := by
  funext a
  match a with
  | ⟨0, _⟩ => exact Fin.ext (Nat.lt_one_iff.mp (y 0).isLt)
  | ⟨1, _⟩ => rfl
  | ⟨2, _⟩ => rfl

theorem emb_tok {n : ℕ} (t : Fin cfg0.N) (y : (⟨3, ![1, 512, n]⟩ : Shape).Idx) (i : (⟨3, ![2, 8192, n]⟩ : Shape).Idx)
    (h0 : (i 0).val = t.val / 16) (h1 : (i 1).val = t.val % 16 * 512 + (y 1).val) (h2 : (i 2).val = (y 2).val) :
    i = ix3 (seqOf t) (tokOf t ((y 1).cast rfl)) ((y 2).cast rfl) := by
  funext a
  match a with
  | ⟨0, _⟩ => exact Fin.ext h0
  | ⟨1, _⟩ => exact Fin.ext h1
  | ⟨2, _⟩ => exact Fin.ext h2

theorem emb_seq {n : ℕ} (t : Fin cfg0.N) (y : (⟨3, ![1, 8, n]⟩ : Shape).Idx) (i : (⟨3, ![2, 8, n]⟩ : Shape).Idx)
    (h0 : (i 0).val = t.val / 16) (h1 : (i 1).val = (y 1).val) (h2 : (i 2).val = (y 2).val) :
    i = ix3 (seqOf t) ((y 1).cast rfl) ((y 2).cast rfl) := by
  funext a
  match a with
  | ⟨0, _⟩ => exact Fin.ext h0
  | ⟨1, _⟩ => exact Fin.ext h1
  | ⟨2, _⟩ => exact Fin.ext h2

theorem arr14
    (q : ∀ b l h, IsReal (Cert.Reference2Ideal.Read.val_main_v45 (F := Ideal) (A0 m c) (A1 m c) (A3 m c) (A4 m c) (A5 m c) (ix3 b l h))) :
    (dats (F := Ideal) m 0 c).arrAt 14 cfg0.N = (Cert.Reference2Ideal.Read.val_main_v160 (F := Ideal) (A0 m c) (A1 m c) (A3 m c) (A4 m c) (A5 m c) (A6 m c) : Vec Ideal S2x8192x512 .bf16) := by
  refine (dats (F := Ideal) m 0 c).arrAt_eq_of_covers 14 _ (by decide +kernel) fun t hf y => ?_
  blk_simp
  rw [emb_tok t y (((View.whole main_v24_0).slice (win0_14.rect t)).emb y) (by blk_simp [idx_out t]) (by blk_simp [idx_out t]) (by blk_simp [idx_out t])]
  rw [after0_14]
  by_cases h0 : t.val % 16 = 0
  · rw [outsAt0_A m c t h0]
    dsimp only
    exact (congrArg _ (ix3_eta y)).trans (oA14 m c t h0 _ (q _ _) _)
  · rw [outsAt0_B m c t h0]
    dsimp only
    exact (congrArg _ (ix3_eta y)).trans (oB14 m c t h0 _ _ (found0 m c t h0) (found1 m c t h0) _ (q _ _) _)

theorem arr15 :
    (dats (F := Ideal) m 0 c).arrAt 15 cfg0.N = (Cert.Reference2Ideal.Read.val_main_v161 (F := Ideal) (A0 m c) (A2 m c) (A3 m c) (A4 m c) (A7 m c) : Vec Ideal S2x8192x512 .f32) := by
  refine (dats (F := Ideal) m 0 c).arrAt_eq_of_covers 15 _ (by decide +kernel) fun t hf y => ?_
  blk_simp
  rw [emb_tok t y (((View.whole main_v24_1).slice (win0_15.rect t)).emb y) (by blk_simp [idx_out t]) (by blk_simp [idx_out t]) (by blk_simp [idx_out t])]
  rw [after0_15]
  by_cases h0 : t.val % 16 = 0
  · rw [outsAt0_A m c t h0]
    dsimp only
    exact (congrArg _ (ix3_eta y)).trans (oA15 m c t h0 _ _)
  · rw [outsAt0_B m c t h0]
    dsimp only
    exact (congrArg _ (ix3_eta y)).trans (oB15 m c t h0 _ _ (found0 m c t h0) (found1 m c t h0) _ _)

theorem arr16 :
    (dats (F := Ideal) m 0 c).arrAt 16 cfg0.N = (Cert.Reference2Ideal.Read.val_main_v162 (F := Ideal) (A0 m c) (A2 m c) (A3 m c) (A4 m c) (A7 m c) : Vec Ideal S2x8192x512 .f32) := by
  refine (dats (F := Ideal) m 0 c).arrAt_eq_of_covers 16 _ (by decide +kernel) fun t hf y => ?_
  blk_simp
  rw [emb_tok t y (((View.whole main_v24_2).slice (win0_16.rect t)).emb y) (by blk_simp [idx_out t]) (by blk_simp [idx_out t]) (by blk_simp [idx_out t])]
  rw [after0_16]
  by_cases h0 : t.val % 16 = 0
  · rw [outsAt0_A m c t h0]
    dsimp only
    exact (congrArg _ (ix3_eta y)).trans (oA16 m c t h0 _ _)
  · rw [outsAt0_B m c t h0]
    dsimp only
    exact (congrArg _ (ix3_eta y)).trans (oB16 m c t h0 _ _ (found0 m c t h0) (found1 m c t h0) _ _)

theorem arr17 :
    (dats (F := Ideal) m 0 c).arrAt 17 cfg0.N = (Cert.Reference2Ideal.Read.val_main_v135 (F := Ideal) (A0 m c) (A2 m c) (A3 m c) (A4 m c) (A7 m c) : Vec Ideal S2x8192x512 .f32) := by
  refine (dats (F := Ideal) m 0 c).arrAt_eq_of_covers 17 _ (by decide +kernel) fun t hf y => ?_
  blk_simp
  rw [emb_tok t y (((View.whole main_v24_3).slice (win0_17.rect t)).emb y) (by blk_simp [idx_out t]) (by blk_simp [idx_out t]) (by blk_simp [idx_out t])]
  rw [after0_17]
  by_cases h0 : t.val % 16 = 0
  · rw [outsAt0_A m c t h0]
    dsimp only
    exact (congrArg _ (ix3_eta y)).trans (oA17 m c t h0 _ _)
  · rw [outsAt0_B m c t h0]
    dsimp only
    exact (congrArg _ (ix3_eta y)).trans (oB17 m c t h0 _ _ (found0 m c t h0) (found1 m c t h0) _ _)

theorem arr18 :
    (dats (F := Ideal) m 0 c).arrAt 18 cfg0.N = (Cert.Reference2Ideal.Read.val_main_v18 (F := Ideal) (A0 m c) (A3 m c) (A4 m c) : Vec Ideal S2x8192x512 .f32) := by
  refine (dats (F := Ideal) m 0 c).arrAt_eq_of_covers 18 _ (by decide +kernel) fun t hf y => ?_
  blk_simp
  rw [emb_tok t y (((View.whole main_v24_4).slice (win0_18.rect t)).emb y) (by blk_simp [idx_out t]) (by blk_simp [idx_out t]) (by blk_simp [idx_out t])]
  rw [after0_18]
  by_cases h0 : t.val % 16 = 0
  · rw [outsAt0_A m c t h0]
    dsimp only
    exact (congrArg _ (ix3_eta y)).trans (oA18 m c t h0 _ _)
  · rw [outsAt0_B m c t h0]
    dsimp only
    exact (congrArg _ (ix3_eta y)).trans (oB18 m c t h0 _ _ (found0 m c t h0) (found1 m c t h0) _ _)

theorem arr19 :
    (dats (F := Ideal) m 0 c).arrAt 19 cfg0.N = (Cert.Reference2Ideal.Read.val_main_v158 (F := Ideal) (A0 m c) (A3 m c) (A4 m c) (A8 m c) (A9 m c) : Vec Ideal S2x8192x128 .f32) := by
  refine (dats (F := Ideal) m 0 c).arrAt_eq_of_covers 19 _ (by decide +kernel) fun t hf y => ?_
  blk_simp
  rw [emb_tok t y (((View.whole main_v24_5).slice (win0_19.rect t)).emb y) (by blk_simp [idx_out t]) (by blk_simp [idx_out t]) (by blk_simp [idx_out t])]
  rw [after0_19]
  by_cases h0 : t.val % 16 = 0
  · rw [outsAt0_A m c t h0]
    dsimp only
    exact (congrArg _ (ix3_eta y)).trans (oA19 m c t h0 _ _)
  · rw [outsAt0_B m c t h0]
    dsimp only
    exact (congrArg _ (ix3_eta y)).trans (oB19 m c t h0 _ _ (found0 m c t h0) (found1 m c t h0) _ _)

theorem last20 (t : Fin cfg0.N) (hl : t.val % 16 = 15) (i : Fin 8) (h : Fin 512) :
    Cert.Reference2Ideal.Read.val_main_v21 (F := Ideal) (A0 m c) (A3 m c) (A4 m c) (ix3 (seqOf t) (tokOf t ⟨504 + i.val, by omega⟩) h)
      = Cert.Reference2Ideal.Read.val_main_v163 (F := Ideal) (A0 m c) (A3 m c) (A4 m c) (ix3 (seqOf t) i h) := by
  rw [ref_tcu]
  exact congrArg (fun k => Cert.Reference2Ideal.Read.val_main_v21 (F := Ideal) (A0 m c) (A3 m c) (A4 m c) (ix3 (seqOf t) k h))
    (Fin.ext (by show t.val % 16 * 512 + (504 + i.val) = 8184 + i.val; omega))

theorem arr20 :
    (dats (F := Ideal) m 0 c).arrAt 20 cfg0.N = (Cert.Reference2Ideal.Read.val_main_v163 (F := Ideal) (A0 m c) (A3 m c) (A4 m c) : Vec Ideal S2x8x512 .f32) := by
  refine (dats (F := Ideal) m 0 c).arrAt_eq_of_covers 20 _ (by decide +kernel) fun t hf y => ?_
  have hl : t.val % 16 = 15 := (flush0_20 t).mp hf
  blk_simp
  rw [emb_seq t y (((View.whole main_v24_6).slice (win0_20.rect t)).emb y) (by blk_simp [idx_out t]) (by blk_simp [idx_out t]) (by blk_simp [idx_out t])]
  rw [after0_20, outsAt0_B m c t (by omega)]
  dsimp only
  refine (congrArg _ (ix3_eta y)).trans ((oB20 m c t (by omega) _ _ _ _).trans (last20 m c t hl _ _))

theorem last21 (t : Fin cfg0.N) (hl : t.val % 16 = 15) (i : Fin 8) (h : Fin 1536) :
    Cert.Reference2Ideal.Read.val_main_v17 (F := Ideal) (A0 m c) (A3 m c) (A4 m c) (ix3 (seqOf t) (tokOf t ⟨504 + i.val, by omega⟩) h)
      = Cert.Reference2Ideal.Read.val_main_v164 (F := Ideal) (A0 m c) (A3 m c) (A4 m c) (ix3 (seqOf t) i h) := by
  rw [ref_tqkv]
  exact congrArg (fun k => Cert.Reference2Ideal.Read.val_main_v17 (F := Ideal) (A0 m c) (A3 m c) (A4 m c) (ix3 (seqOf t) k h))
    (Fin.ext (by show t.val % 16 * 512 + (504 + i.val) = 8184 + i.val; omega))

theorem arr21 :
    (dats (F := Ideal) m 0 c).arrAt 21 cfg0.N = (Cert.Reference2Ideal.Read.val_main_v164 (F := Ideal) (A0 m c) (A3 m c) (A4 m c) : Vec Ideal S2x8x1536 .f32) := by
  refine (dats (F := Ideal) m 0 c).arrAt_eq_of_covers 21 _ (by decide +kernel) fun t hf y => ?_
  have hl : t.val % 16 = 15 := (flush0_21 t).mp hf
  blk_simp
  rw [emb_seq t y (((View.whole main_v24_7).slice (win0_21.rect t)).emb y) (by blk_simp [idx_out t]) (by blk_simp [idx_out t]) (by blk_simp [idx_out t])]
  rw [after0_21, outsAt0_B m c t (by omega)]
  dsimp only
  refine (congrArg _ (ix3_eta y)).trans ((oB21 m c t (by omega) _ _ _ _).trans (last21 m c t hl _ _))

end Cert.Proj

end
-- ==== Proof.ProjFinite.lean ====
/- The precondition of the projections, read: every entry of the arguments it names is a real number. -/
module

public import proofs.«01_k».proof.Defs
public import proofs.«01_k».proof.Proof.Finite
public import proofs.«01_k».proof.Proof.ProjPoint

@[expose] public section

set_option maxRecDepth 16384

noncomputable section

namespace Cert.Proj

open Idealize.ShloMosaic Idealize.SL.Sem Cert.Kernel2Ideal Cert.Kernel2Ideal.Gen
open Cert.Route (IsReal isReal_of_lt inf_f32 isReal_rms)

/-- The side conditions the precondition's operations take. -/
theorem pre_facts : Cert.Pre_finite_projections.Facts := by
  constructor <;> decide

/-- The arguments whose entries the precondition says are real. -/
structure RealArgs (a0 : FVec Ideal S2x8192x1024 .f32) (a1 : FVec Ideal S8x512 .f32) (a3 : FVec Ideal S1024 .f32)
    (a4 : FVec Ideal S1024x3592 .f32) (a5 : FVec Ideal S3x512 .f32) : Prop where
  r0 : ∀ i, IsReal (a0 i)
  r1 : ∀ i, IsReal (a1 i)
  r3 : ∀ i, IsReal (a3 i)
  r4 : ∀ i, IsReal (a4 i)
  r5 : ∀ i, IsReal (a5 i)

theorem reals_of_pre (m : (ℓ : Loc nD τ sig) → Buf (Elt Ideal) ℓ) (h : @Cert.Pre_Kernel2Ideal_finite_projections pre_facts m) (c : Dev nD) :
    RealArgs (A0 m c) (A1 m c) (A3 m c) (A4 m c) (A5 m c) := by
  obtain ⟨p0, p1, p2, p3, p4⟩ := h c
  refine ⟨fun i => ?_, fun i => ?_, fun i => ?_, fun i => ?_, fun i => ?_⟩
  · have e := congrFun p0 i
    dsimp only [Cert.Pre_finite_projections.fn] at e
    pointwise at e
    rw [inf_f32] at e
    exact isReal_of_lt e
  · have e := congrFun p1 i
    dsimp only [Cert.Pre_finite_projections.fn] at e
    pointwise at e
    rw [inf_f32] at e
    exact isReal_of_lt e
  · have e := congrFun p2 i
    dsimp only [Cert.Pre_finite_projections.fn] at e
    pointwise at e
    rw [inf_f32] at e
    exact isReal_of_lt e
  · have e := congrFun p3 i
    dsimp only [Cert.Pre_finite_projections.fn] at e
    pointwise at e
    rw [inf_f32] at e
    exact isReal_of_lt e
  · have e := congrFun p4 i
    dsimp only [Cert.Pre_finite_projections.fn] at e
    pointwise at e
    rw [inf_f32] at e
    exact isReal_of_lt e

section
variable {a0 : FVec Ideal S2x8192x1024 .f32} {a1 : FVec Ideal S8x512 .f32} {a3 : FVec Ideal S1024 .f32}
    {a4 : FVec Ideal S1024x3592 .f32} {a5 : FVec Ideal S3x512 .f32} (H : RealArgs a0 a1 a3 a4 a5) (b : Fin 2)
include H

theorem real_xn (l : Fin 8192) (k : Fin 1024) : IsReal (Cert.Reference2Ideal.Read.val_main_v12 (F := Ideal) a0 a3 (ix3 b l k)) := by
  rw [ref_xn]
  exact ((H.r0 _).mul (isReal_rms (fun i => H.r0 _) Cert.Route.isPos_1024 Cert.Route.isPos_eps)).mul (H.r3 _)

theorem real_proj (l : Fin 8192) (j : Fin 3592) : IsReal (Cert.Reference2Ideal.Read.val_main_v13 (F := Ideal) a0 a3 a4 (ix3 b l j)) := by
  rw [ref_proj]
  exact IsReal.sum fun k => (real_xn H b l k).mul (H.r4 _)

theorem real_cux (n : Fin 8200) (h : Fin 512) : IsReal (cux a0 a1 a3 a4 b n h) := by
  unfold cux
  by_cases hn : n.val < 8
  · rw [dif_pos hn]
    exact H.r1 _
  · rw [dif_neg hn, ref_cu]
    exact (real_proj H b _ _).mul (real_proj H b _ _)

/-- The gated first convolution is real. -/
theorem real_ya (l : Fin 8192) (h : Fin 512) : IsReal (Cert.Reference2Ideal.Read.val_main_v45 (F := Ideal) a0 a1 a3 a4 a5 (ix3 b l h)) := by
  rw [ref_ya0]
  exact (real_proj H b _ _).mul ((((real_cux H b _ _).mul (H.r5 _)).add ((real_cux H b _ _).mul (H.r5 _))).add ((real_cux H b _ _).mul (H.r5 _)))

end

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.FrameP
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.FrameI
public import proofs.«01_k».proof.Proof.Gen.Reference2Ideal
public import proofs.«01_k».proof.Proof.ProjRun
public import proofs.«01_k».proof.Proof.Gen.Reference2Ideal.Run
public import proofs.«01_k».proof.Proof.Gen.Reference2Ideal.Read
public import proofs.«01_k».proof.Proof.Blocks
public import proofs.«01_k».proof.Proof.Finite
public import proofs.«01_k».proof.Proof.ProjBlocks
public import proofs.«01_k».proof.Proof.ProjFinite
public import Idealize.ShloMosaic.Adequacy
public import Idealize.ShloMosaic.Init

@[expose] public section

noncomputable section

namespace Cert.Proof

open Idealize.ShloMosaic Idealize.SL.Sem Cert.Kernel

/-- The reference leaves its arguments as they were and every counter at zero. -/
theorem ref_frame : @Cert.quiescent_ReferenceIdeal Cert.ReferenceIdeal.Gen.facts := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- Kernel and reference end with equal results over the extended reals, from real arguments. -/
theorem value : @Cert.algebraic_KernelIdeal_ReferenceIdeal_pre_finite Cert.KernelIdeal.Gen.facts Cert.ReferenceIdeal.Gen.facts
    Cert.Route.pre_facts := by
  intro m g m' g' hpre hag
  refine ⟨fun c => Cert.Route.A29 m c, fun c => Cert.Route.A42 m c, fun c => Cert.Route.A90 m c, ?_, ?_⟩
  · refine (θ_run _ _ _).mono (fun r h c => ?_) (Cert.KernelIdeal.Value.run_blocks m g)
    obtain ⟨h0, h1, h2, ha⟩ := h c
    exact ⟨h0.trans (Cert.Route.arr11 m c), h1.trans (Cert.Route.arr12 m c),
      h2.trans (Cert.Route.arr13 m c (Cert.Route.reals_of_pre m hpre c)), ha⟩
  · refine (θ_run _ _ _).mono (fun r h c => ?_) (Cert.ReferenceIdeal.Value.run m' g')
    obtain ⟨h0, h1, h2, ha⟩ := h c
    obtain ⟨e0, e1, e2, e3, e4, e5, e6, e7, e8, e9, e10⟩ := hag c
    refine ⟨h0.trans ((Cert.ReferenceIdeal.Read.val_main_v29_eq _).trans ?_),
      h1.trans ((Cert.ReferenceIdeal.Read.val_main_v42_eq _).trans ?_),
      h2.trans ((Cert.ReferenceIdeal.Read.val_main_v90_eq _).trans ?_), ha⟩
    · simp only [StableHlo.launchContents_devRef, e0, e1, e2, e3, e4, e5]
    · simp only [StableHlo.launchContents_devRef, e0, e1, e2, e3, e4, e5, e6]
    · simp only [StableHlo.launchContents_devRef, e0, e1, e2, e3, e4, e5, e6, e7, e8, e9, e10]

/-- The reference of the projections leaves its arguments as they were and every counter at zero. -/
theorem ref_frame2 : @Cert.quiescent_Reference2Ideal Cert.Reference2Ideal.Gen.facts := fun m ρ _ =>
  (θ_run Cert.Reference2Ideal.defs _ _).mono (fun r h => ⟨fun c => (h c).2.2.2.2.2.2.2.2,
      Idealize.ShloMosaic.sem_eq_zero_of_no_sems (by decide) r.2⟩)
    (Cert.Reference2Ideal.Value.run (F := Ideal) m ρ)

/-- The named constant is the real that the kernel's source computes it from. -/
theorem preserves2 : Cert.preserves_Kernel2_Kernel2Ideal := IdealRules.named_const.statement _ _ _ _ _ rfl

/-- Kernel and reference of the projections end with equal results over the extended reals, from real arguments. -/
theorem value2 : @Cert.algebraic_Kernel2Ideal_Reference2Ideal_pre_finite_projections Cert.Kernel2Ideal.Gen.facts Cert.Reference2Ideal.Gen.facts
    Cert.Proj.pre_facts := by
  intro m g m' g' hpre hag
  refine ⟨fun c => Cert.Reference2Ideal.Read.val_main_v160 (F := Ideal) (Cert.Proj.A0 m c) (Cert.Proj.A1 m c) (Cert.Proj.A3 m c) (Cert.Proj.A4 m c) (Cert.Proj.A5 m c) (Cert.Proj.A6 m c),
    fun c => Cert.Reference2Ideal.Read.val_main_v161 (F := Ideal) (Cert.Proj.A0 m c) (Cert.Proj.A2 m c) (Cert.Proj.A3 m c) (Cert.Proj.A4 m c) (Cert.Proj.A7 m c),
    fun c => Cert.Reference2Ideal.Read.val_main_v162 (F := Ideal) (Cert.Proj.A0 m c) (Cert.Proj.A2 m c) (Cert.Proj.A3 m c) (Cert.Proj.A4 m c) (Cert.Proj.A7 m c),
    fun c => Cert.Reference2Ideal.Read.val_main_v135 (F := Ideal) (Cert.Proj.A0 m c) (Cert.Proj.A2 m c) (Cert.Proj.A3 m c) (Cert.Proj.A4 m c) (Cert.Proj.A7 m c),
    fun c => Cert.Reference2Ideal.Read.val_main_v18 (F := Ideal) (Cert.Proj.A0 m c) (Cert.Proj.A3 m c) (Cert.Proj.A4 m c),
    fun c => Cert.Reference2Ideal.Read.val_main_v158 (F := Ideal) (Cert.Proj.A0 m c) (Cert.Proj.A3 m c) (Cert.Proj.A4 m c) (Cert.Proj.A8 m c) (Cert.Proj.A9 m c),
    fun c => Cert.Reference2Ideal.Read.val_main_v163 (F := Ideal) (Cert.Proj.A0 m c) (Cert.Proj.A3 m c) (Cert.Proj.A4 m c),
    fun c => Cert.Reference2Ideal.Read.val_main_v164 (F := Ideal) (Cert.Proj.A0 m c) (Cert.Proj.A3 m c) (Cert.Proj.A4 m c), ?_, ?_⟩
  · refine (θ_run _ _ _).mono (fun r h c => ?_) (Cert.Proj.run_blocks m g)
    obtain ⟨h0, h1, h2, h3, h4, h5, h6, h7, ha⟩ := h c
    exact ⟨h0.trans (Cert.Proj.arr14 m c (fun b l h => Cert.Proj.real_ya (Cert.Proj.reals_of_pre m hpre c) b l h)),
      h1.trans (Cert.Proj.arr15 m c), h2.trans (Cert.Proj.arr16 m c), h3.trans (Cert.Proj.arr17 m c), h4.trans (Cert.Proj.arr18 m c),
      h5.trans (Cert.Proj.arr19 m c), h6.trans (Cert.Proj.arr20 m c), h7.trans (Cert.Proj.arr21 m c), ha⟩
  · refine (θ_run _ _ _).mono (fun r h c => ?_) (Cert.Reference2Ideal.Value.run m' g')
    obtain ⟨h0, h1, h2, h3, h4, h5, h6, h7, ha⟩ := h c
    obtain ⟨e0, e1, e2, e3, e4, e5, e6, e7, e8, e9⟩ := hag c
    refine ⟨h0.trans ((Cert.Reference2Ideal.Read.val_main_v160_eq _).trans ?_),
      h1.trans ((Cert.Reference2Ideal.Read.val_main_v161_eq _).trans ?_),
      h2.trans ((Cert.Reference2Ideal.Read.val_main_v162_eq _).trans ?_),
      h3.trans ((Cert.Reference2Ideal.Read.val_main_v135_eq _).trans ?_),
      h4.trans ((Cert.Reference2Ideal.Read.val_main_v18_eq _).trans ?_),
      h5.trans ((Cert.Reference2Ideal.Read.val_main_v158_eq _).trans ?_),
      h6.trans ((Cert.Reference2Ideal.Read.val_main_v163_eq _).trans ?_),
      h7.trans ((Cert.Reference2Ideal.Read.val_main_v164_eq _).trans ?_), ha⟩
    · simp only [StableHlo.launchContents_devRef, e0, e1, e3, e4, e5, e6]
    · simp only [StableHlo.launchContents_devRef, e0, e2, e3, e4, e7]
    · simp only [StableHlo.launchContents_devRef, e0, e2, e3, e4, e7]
    · simp only [StableHlo.launchContents_devRef, e0, e2, e3, e4, e7]
    · simp only [StableHlo.launchContents_devRef, e0, e3, e4]
    · simp only [StableHlo.launchContents_devRef, e0, e3, e4, e8, e9]
    · simp only [StableHlo.launchContents_devRef, e0, e3, e4]
    · simp only [StableHlo.launchContents_devRef, e0, e3, e4]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Route.pre_facts, Cert.Proj.pre_facts,
    fun m ρ _ => Cert.Kernel.Gen.frame m ρ, fun m ρ _ => Cert.KernelIdeal.Gen.frame m ρ,
    fun m ρ _ => Cert.KernelIdeal.Gen.frame m ρ, ref_frame,
    fun m ρ _ => ref_frame m ρ trivial,
    fun m ρ _ => Cert.Kernel2.Gen.frame m ρ, fun m ρ _ => Cert.Kernel2Ideal.Gen.frame m ρ,
    fun m ρ _ => Cert.Kernel2Ideal.Gen.frame m ρ, ref_frame2,
    fun m ρ _ => ref_frame2 m ρ trivial, trivial, value, preserves2, value2⟩

end Cert.Proof

end
